-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_nan [hPre_no_negative_nan : Cert.Pre_no_negative_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_nan [hPre_no_negative_nan : Cert.Pre_no_negative_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_negative_nan [hKernelIdeal : Cert.KernelIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_negative_nan [hReferenceIdeal : Cert.ReferenceIdeal.Facts] [hPre_no_negative_nan : Cert.Pre_no_negative_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_negative_nan [hKernelIdeal : Cert.KernelIdeal.Facts] [hReferenceIdeal : Cert.ReferenceIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_negative_nan : Cert.Pre_no_negative_nan.Facts),
    quiescent_Kernel (hKernel := hKernel)
    ∧ quiescent_KernelIdeal (hKernelIdeal := hKernelIdeal)
    ∧ quiescent_KernelIdeal_pre_no_negative_nan (hKernelIdeal := hKernelIdeal) (hPre_no_negative_nan := hPre_no_negative_nan)
    ∧ quiescent_ReferenceIdeal (hReferenceIdeal := hReferenceIdeal)
    ∧ quiescent_ReferenceIdeal_pre_no_negative_nan (hReferenceIdeal := hReferenceIdeal) (hPre_no_negative_nan := hPre_no_negative_nan)
    ∧ preserves_Kernel_KernelIdeal
    ∧ algebraic_KernelIdeal_ReferenceIdeal_pre_no_negative_nan (hKernelIdeal := hKernelIdeal) (hReferenceIdeal := hReferenceIdeal) (hPre_no_negative_nan := hPre_no_negative_nan)
-- ==== Pre_no_negative_nan.lean ====
abbrev S1x256x5120 : Shape := ⟨3, ![1, 256, 5120]⟩
abbrev S20x128x27648 : Shape := ⟨3, ![20, 128, 27648]⟩
abbrev S20x64x27648 : Shape := ⟨3, ![20, 64, 27648]⟩
abbrev S20x16x27648 : Shape := ⟨3, ![20, 16, 27648]⟩
abbrev S20x27648 : Shape := ⟨2, ![20, 27648]⟩
abbrev S_ : Shape := ⟨0, ![]⟩

class Facts : Prop where
  bcast_S_S20x27648 : S_.BroadcastsInDim S20x27648 (![] : Fin 0 → Fin S20x27648.rank)

variable [Facts]

def fn {F : FTy → Type} [FloatOps F] (main_arg0 : FVec F S1x256x5120 .bf16) (main_arg1 : IVec S20x128x27648 8) (main_arg2 : IVec S20x64x27648 8) (main_arg3 : IVec S20x16x27648 8) (main_arg4 : IVec S20x27648 16) : IVec S20x27648 1 :=
  let main_c : IVec S_ 16 := constantI S_ 16 0#16
  let main_v0 : IVec S20x27648 16 := broadcastInDim S20x27648 ![] bcast_S_S20x27648 main_c
  let main_v1 : IVec S20x27648 1 := cmpi .sge main_arg4 main_v0
  let main_c_0 : IVec S_ 16 := constantI S_ 16 64512#16
  let main_v2 : IVec S20x27648 16 := broadcastInDim S20x27648 ![] bcast_S_S20x27648 main_c_0
  let main_v3 : IVec S20x27648 1 := cmpi .sle main_arg4 main_v2
  let main_v4 : IVec S20x27648 1 := ori main_v1 main_v3
  main_v4
-- ==== Kernel.lean ====
abbrev S1x256x5120 : Shape := ⟨3, ![1, 256, 5120]⟩
abbrev S20x128x27648 : Shape := ⟨3, ![20, 128, 27648]⟩
abbrev S20x64x27648 : Shape := ⟨3, ![20, 64, 27648]⟩
abbrev S20x16x27648 : Shape := ⟨3, ![20, 16, 27648]⟩
abbrev S20x27648 : Shape := ⟨2, ![20, 27648]⟩
abbrev S256x5120 : Shape := ⟨2, ![256, 5120]⟩
abbrev S256x27648 : Shape := ⟨2, ![256, 27648]⟩
abbrev S20x128x1024 : Shape := ⟨3, ![20, 128, 1024]⟩
abbrev S20x64x1024 : Shape := ⟨3, ![20, 64, 1024]⟩
abbrev S20x16x1024 : Shape := ⟨3, ![20, 16, 1024]⟩
abbrev S20x1024 : Shape := ⟨2, ![20, 1024]⟩
abbrev S256x1024 : Shape := ⟨2, ![256, 1024]⟩
abbrev S1x16x1024 : Shape := ⟨3, ![1, 16, 1024]⟩
abbrev S16x1024 : Shape := ⟨2, ![16, 1024]⟩
abbrev S1x1024 : Shape := ⟨2, ![1, 1024]⟩
abbrev S1x128x1024 : Shape := ⟨3, ![1, 128, 1024]⟩
abbrev S128x1024 : Shape := ⟨2, ![128, 1024]⟩
abbrev S32x1024 : Shape := ⟨2, ![32, 1024]⟩
abbrev S1x64x1024 : Shape := ⟨3, ![1, 64, 1024]⟩
abbrev S64x1024 : Shape := ⟨2, ![64, 1024]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S1x256x5120, .bf16⟩
  | .hbm, ⟨1, _⟩ => ⟨S20x128x27648, .i8⟩
  | .hbm, ⟨2, _⟩ => ⟨S20x64x27648, .i8⟩
  | .hbm, ⟨3, _⟩ => ⟨S20x16x27648, .i8⟩
  | .hbm, ⟨4, _⟩ => ⟨S20x27648, .i16⟩
  | .hbm, ⟨5, _⟩ => ⟨S256x5120, .bf16⟩
  | .hbm, ⟨6, _⟩ => ⟨S256x27648, .bf16⟩
  | .local _ .vmem, ⟨0, _⟩ => ⟨S256x5120, .bf16⟩
  | .local _ .vmem, ⟨1, _⟩ => ⟨S20x128x1024, .i8⟩
  | .local _ .vmem, ⟨2, _⟩ => ⟨S20x128x1024, .i8⟩
  | .local _ .vmem, ⟨3, _⟩ => ⟨S20x64x1024, .i8⟩
  | .local _ .vmem, ⟨4, _⟩ => ⟨S20x64x1024, .i8⟩
  | .local _ .vmem, ⟨5, _⟩ => ⟨S20x16x1024, .i8⟩
  | .local _ .vmem, ⟨6, _⟩ => ⟨S20x16x1024, .i8⟩
  | .local _ .vmem, ⟨7, _⟩ => ⟨S20x1024, .i16⟩
  | .local _ .vmem, ⟨8, _⟩ => ⟨S20x1024, .i16⟩
  | .local _ .vmem, ⟨9, _⟩ => ⟨S256x1024, .bf16⟩
  | .local _ .vmem, ⟨10, _⟩ => ⟨S256x1024, .bf16⟩
  | _, _ => ⟨S1x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20x128x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x64x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x16x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x1024 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x5120 : Shape := ⟨3, ![1, 256, 5120]⟩
abbrev S20x128x27648 : Shape := ⟨3, ![20, 128, 27648]⟩
abbrev S20x64x27648 : Shape := ⟨3, ![20, 64, 27648]⟩
abbrev S20x16x27648 : Shape := ⟨3, ![20, 16, 27648]⟩
abbrev S20x27648 : Shape := ⟨2, ![20, 27648]⟩
abbrev S20x1x27648 : Shape := ⟨3, ![20, 1, 27648]⟩
abbrev S20x4x4x27648 : Shape := ⟨4, ![20, 4, 4, 27648]⟩
abbrev S1x256x20x4x64 : Shape := ⟨5, ![1, 256, 20, 4, 64]⟩
abbrev S_ : Shape := ⟨0, ![]⟩
abbrev S20x4x16x27648 : Shape := ⟨4, ![20, 4, 16, 27648]⟩
abbrev S20x1x4x27648 : Shape := ⟨4, ![20, 1, 4, 27648]⟩
abbrev S20x4x27648 : Shape := ⟨3, ![20, 4, 27648]⟩
abbrev S20x4x1x27648 : Shape := ⟨4, ![20, 4, 1, 27648]⟩
abbrev S1x256x20x1x64 : Shape := ⟨5, ![1, 256, 20, 1, 64]⟩
abbrev S1x256x20x64 : Shape := ⟨4, ![1, 256, 20, 64]⟩
abbrev S1x256x27648 : Shape := ⟨3, ![1, 256, 27648]⟩
abbrev S256x27648 : Shape := ⟨2, ![256, 27648]⟩

abbrev nBuf : Space → Nat
  | .hbm => 146
  | .vmem => 2
  | .smem => 0
  | _ => 0

abbrev hbmTy0_0 (i : Nat) : BufTy := match i % 128 with
  | 0 => ⟨S1x256x5120, .bf16⟩
  | 1 => ⟨S20x128x27648, .i8⟩
  | 2 => ⟨S20x64x27648, .i8⟩
  | 3 => ⟨S20x16x27648, .i8⟩
  | 4 => ⟨S20x27648, .i16⟩
  | 5 => ⟨S20x27648, .f16⟩
  | 6 => ⟨S20x27648, .f32⟩
  | 7 => ⟨S20x1x27648, .f32⟩
  | 8 => ⟨S20x16x27648, .i32⟩
  | 9 => ⟨S20x16x27648, .f32⟩
  | 10 => ⟨S20x16x27648, .f32⟩
  | 11 => ⟨S20x16x27648, .f32⟩
  | 12 => ⟨S20x16x27648, .bf16⟩
  | 13 => ⟨S20x4x4x27648, .bf16⟩
  | 14 => ⟨S20x128x27648, .i32⟩
  | 15 => ⟨S20x64x27648, .i32⟩
  | 16 => ⟨S1x256x20x4x64, .bf16⟩
  | 17 => ⟨S20x64x27648, .i32⟩
  | 18 => ⟨S_, .i32⟩
  | 19 => ⟨S20x64x27648, .i32⟩
  | 20 => ⟨S20x64x27648, .i32⟩
  | 21 => ⟨S_, .i32⟩
  | 22 => ⟨S20x64x27648, .i32⟩
  | 23 => ⟨S20x64x27648, .i32⟩
  | 24 => ⟨S_, .i32⟩
  | 25 => ⟨S20x64x27648, .i32⟩
  | 26 => ⟨S20x64x27648, .i32⟩
  | 27 => ⟨S_, .i32⟩
  | 28 => ⟨S20x64x27648, .i32⟩
  | 29 => ⟨S20x64x27648, .i32⟩
  | 30 => ⟨S_, .i32⟩
  | 31 => ⟨S20x64x27648, .i32⟩
  | 32 => ⟨S20x64x27648, .i32⟩
  | 33 => ⟨S20x64x27648, .i32⟩
  | 34 => ⟨S20x64x27648, .bf16⟩
  | 35 => ⟨S_, .bf16⟩
  | 36 => ⟨S20x64x27648, .bf16⟩
  | 37 => ⟨S20x64x27648, .bf16⟩
  | 38 => ⟨S20x4x16x27648, .bf16⟩
  | 39 => ⟨S20x1x4x27648, .bf16⟩
  | 40 => ⟨S20x4x27648, .bf16⟩
  | 41 => ⟨S20x4x1x27648, .bf16⟩
  | 42 => ⟨S20x4x16x27648, .bf16⟩
  | 43 => ⟨S20x4x16x27648, .bf16⟩
  | 44 => ⟨S20x64x27648, .bf16⟩
  | 45 => ⟨S1x256x20x1x64, .bf16⟩
  | 46 => ⟨S1x256x20x64, .bf16⟩
  | 47 => ⟨S1x256x27648, .f32⟩
  | 48 => ⟨S20x64x27648, .i32⟩
  | 49 => ⟨S_, .i32⟩
  | 50 => ⟨S20x64x27648, .i32⟩
  | 51 => ⟨S20x64x27648, .i32⟩
  | 52 => ⟨S_, .i32⟩
  | 53 => ⟨S20x64x27648, .i32⟩
  | 54 => ⟨S20x64x27648, .i32⟩
  | 55 => ⟨S_, .i32⟩
  | 56 => ⟨S20x64x27648, .i32⟩
  | 57 => ⟨S20x64x27648, .i32⟩
  | 58 => ⟨S_, .i32⟩
  | 59 => ⟨S20x64x27648, .i32⟩
  | 60 => ⟨S20x64x27648, .i32⟩
  | 61 => ⟨S_, .i32⟩
  | 62 => ⟨S20x64x27648, .i32⟩
  | 63 => ⟨S20x64x27648, .i32⟩
  | 64 => ⟨S20x64x27648, .i32⟩
  | 65 => ⟨S20x64x27648, .bf16⟩
  | 66 => ⟨S_, .bf16⟩
  | 67 => ⟨S20x64x27648, .bf16⟩
  | 68 => ⟨S20x64x27648, .bf16⟩
  | 69 => ⟨S20x4x16x27648, .bf16⟩
  | 70 => ⟨S20x1x4x27648, .bf16⟩
  | 71 => ⟨S20x4x27648, .bf16⟩
  | 72 => ⟨S20x4x1x27648, .bf16⟩
  | 73 => ⟨S20x4x16x27648, .bf16⟩
  | 74 => ⟨S20x4x16x27648, .bf16⟩
  | 75 => ⟨S20x64x27648, .bf16⟩
  | 76 => ⟨S1x256x20x1x64, .bf16⟩
  | 77 => ⟨S1x256x20x64, .bf16⟩
  | 78 => ⟨S1x256x27648, .f32⟩
  | 79 => ⟨S1x256x27648, .f32⟩
  | 80 => ⟨S20x64x27648, .i32⟩
  | 81 => ⟨S_, .i32⟩
  | 82 => ⟨S20x64x27648, .i32⟩
  | 83 => ⟨S20x64x27648, .i32⟩
  | 84 => ⟨S_, .i32⟩
  | 85 => ⟨S20x64x27648, .i32⟩
  | 86 => ⟨S20x64x27648, .i32⟩
  | 87 => ⟨S_, .i32⟩
  | 88 => ⟨S20x64x27648, .i32⟩
  | 89 => ⟨S20x64x27648, .i32⟩
  | 90 => ⟨S_, .i32⟩
  | 91 => ⟨S20x64x27648, .i32⟩
  | 92 => ⟨S20x64x27648, .i32⟩
  | 93 => ⟨S_, .i32⟩
  | 94 => ⟨S20x64x27648, .i32⟩
  | 95 => ⟨S20x64x27648, .i32⟩
  | 96 => ⟨S20x64x27648, .i32⟩
  | 97 => ⟨S20x64x27648, .bf16⟩
  | 98 => ⟨S_, .bf16⟩
  | 99 => ⟨S20x64x27648, .bf16⟩
  | 100 => ⟨S20x64x27648, .bf16⟩
  | 101 => ⟨S20x4x16x27648, .bf16⟩
  | 102 => ⟨S20x1x4x27648, .bf16⟩
  | 103 => ⟨S20x4x27648, .bf16⟩
  | 104 => ⟨S20x4x1x27648, .bf16⟩
  | 105 => ⟨S20x4x16x27648, .bf16⟩
  | 106 => ⟨S20x4x16x27648, .bf16⟩
  | 107 => ⟨S20x64x27648, .bf16⟩
  | 108 => ⟨S1x256x20x1x64, .bf16⟩
  | 109 => ⟨S1x256x20x64, .bf16⟩
  | 110 => ⟨S1x256x27648, .f32⟩
  | 111 => ⟨S1x256x27648, .f32⟩
  | 112 => ⟨S20x64x27648, .i32⟩
  | 113 => ⟨S_, .i32⟩
  | 114 => ⟨S20x64x27648, .i32⟩
  | 115 => ⟨S20x64x27648, .i32⟩
  | 116 => ⟨S_, .i32⟩
  | 117 => ⟨S20x64x27648, .i32⟩
  | 118 => ⟨S20x64x27648, .i32⟩
  | 119 => ⟨S_, .i32⟩
  | 120 => ⟨S20x64x27648, .i32⟩
  | 121 => ⟨S20x64x27648, .i32⟩
  | 122 => ⟨S_, .i32⟩
  | 123 => ⟨S20x64x27648, .i32⟩
  | 124 => ⟨S20x64x27648, .i32⟩
  | 125 => ⟨S_, .i32⟩
  | 126 => ⟨S20x64x27648, .i32⟩
  | 127 => ⟨S20x64x27648, .i32⟩
  | _ => ⟨S1x256x5120, .bf16⟩

abbrev hbmTy0_1 (i : Nat) : BufTy := match i % 128 with
  | 0 => ⟨S20x64x27648, .i32⟩
  | 1 => ⟨S20x64x27648, .bf16⟩
  | 2 => ⟨S_, .bf16⟩
  | 3 => ⟨S20x64x27648, .bf16⟩
  | 4 => ⟨S20x64x27648, .bf16⟩
  | 5 => ⟨S20x4x16x27648, .bf16⟩
  | 6 => ⟨S20x1x4x27648, .bf16⟩
  | 7 => ⟨S20x4x27648, .bf16⟩
  | 8 => ⟨S20x4x1x27648, .bf16⟩
  | 9 => ⟨S20x4x16x27648, .bf16⟩
  | 10 => ⟨S20x4x16x27648, .bf16⟩
  | 11 => ⟨S20x64x27648, .bf16⟩
  | 12 => ⟨S1x256x20x1x64, .bf16⟩
  | 13 => ⟨S1x256x20x64, .bf16⟩
  | 14 => ⟨S1x256x27648, .f32⟩
  | 15 => ⟨S1x256x27648, .f32⟩
  | 16 => ⟨S1x256x27648, .bf16⟩
  | 17 => ⟨S256x27648, .bf16⟩
  | _ => ⟨S1x256x5120, .bf16⟩

abbrev hbmTy (i : Nat) : BufTy := match i / 128 with
  | 0 => hbmTy0_0 i
  | 1 => hbmTy0_1 i
  | _ => ⟨S1x256x5120, .bf16⟩

abbrev bufTy : (tb : Table) → Fin (tcTables nBuf tb) → BufTy
  | .hbm, ⟨i, _⟩ => hbmTy i
  | .local _ .vmem, ⟨0, _⟩ => ⟨S20x27648, .f16⟩
  | .local _ .vmem, ⟨1, _⟩ => ⟨S20x27648, .f32⟩
  | _, _ => ⟨S1x256x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_10 : Ref sig .tc := ⟨.hbm, 81, rfl⟩
abbrev main_v64 : Ref sig .tc := ⟨.hbm, 82, rfl⟩
abbrev main_v65 : Ref sig .tc := ⟨.hbm, 83, rfl⟩
abbrev main_c_11 : Ref sig .tc := ⟨.hbm, 84, rfl⟩
abbrev main_v66 : Ref sig .tc := ⟨.hbm, 85, rfl⟩
abbrev main_v67 : Ref sig .tc := ⟨.hbm, 86, rfl⟩
abbrev main_c_12 : Ref sig .tc := ⟨.hbm, 87, rfl⟩
abbrev main_v68 : Ref sig .tc := ⟨.hbm, 88, rfl⟩
abbrev main_v69 : Ref sig .tc := ⟨.hbm, 89, rfl⟩
abbrev main_c_13 : Ref sig .tc := ⟨.hbm, 90, rfl⟩
abbrev main_v70 : Ref sig .tc := ⟨.hbm, 91, rfl⟩
abbrev main_v71 : Ref sig .tc := ⟨.hbm, 92, rfl⟩
abbrev main_c_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_16 : Ref sig .tc := ⟨.hbm, 113, rfl⟩
abbrev main_v90 : Ref sig .tc := ⟨.hbm, 114, rfl⟩
abbrev main_v91 : Ref sig .tc := ⟨.hbm, 115, rfl⟩
abbrev main_c_17 : Ref sig .tc := ⟨.hbm, 116, rfl⟩
abbrev main_v92 : Ref sig .tc := ⟨.hbm, 117, rfl⟩
abbrev main_v93 : Ref sig .tc := ⟨.hbm, 118, rfl⟩
abbrev main_c_18 : Ref sig .tc := ⟨.hbm, 119, rfl⟩
abbrev main_v94 : Ref sig .tc := ⟨.hbm, 120, rfl⟩
abbrev main_v95 : Ref sig .tc := ⟨.hbm, 121, rfl⟩
abbrev main_c_19 : Ref sig .tc := ⟨.hbm, 122, rfl⟩
abbrev main_v96 : Ref sig .tc := ⟨.hbm, 123, rfl⟩
abbrev main_v97 : Ref sig .tc := ⟨.hbm, 124, rfl⟩
abbrev main_c_20 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_21 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S20x27648 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x27648 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Q6K.Block.lean ====
/-
  What one grid point of the kernel computes, as ONE fold over the twenty super-blocks of 256 weights.
  The printed body is unrolled; here it is stated once for an arbitrary super-block `i`.
-/
module

public import proofs.«01_k».proof.Proof.Gen.KernelIdeal.Value

@[expose] public section

noncomputable section

namespace Cert.Q6K

open Cert.KernelIdeal Cert.KernelIdeal.Gen Idealize.ShloMosaic

variable {F : FTy → Type} [FloatOps F]

/-- The loads of super-block `i` lie inside the blocks held. -/
theorem inb_x (i : Fin 20) : ∀ a, (![0, 256 * i.val] : Fin 2 → Nat) a + S256x256.size a ≤ S256x5120.size a := by
  intro a
  have := i.isLt
  match a with
  | ⟨0, _⟩ => show 0 + 256 ≤ 256; omega
  | ⟨1, _⟩ => show 256 * i.val + 256 ≤ 5120; omega
/-- The low bits of super-block `i` lie inside the block held. -/
theorem inb_l (i : Fin 20) : ∀ a, (![i.val, 0, 0] : Fin 3 → Nat) a + S1x128x1024.size a ≤ S20x128x1024.size a := by
  intro a
  have := i.isLt
  match a with
  | ⟨0, _⟩ => show i.val + 1 ≤ 20; omega
  | ⟨1, _⟩ => show 0 + 128 ≤ 128; omega
  | ⟨2, _⟩ => show 0 + 1024 ≤ 1024; omega
/-- The high bits of super-block `i` lie inside the block held. -/
theorem inb_h (i : Fin 20) : ∀ a, (![i.val, 0, 0] : Fin 3 → Nat) a + S1x64x1024.size a ≤ S20x64x1024.size a := by
  intro a
  have := i.isLt
  match a with
  | ⟨0, _⟩ => show i.val + 1 ≤ 20; omega
  | ⟨1, _⟩ => show 0 + 64 ≤ 64; omega
  | ⟨2, _⟩ => show 0 + 1024 ≤ 1024; omega
/-- The scales of super-block `i` lie inside the block held. -/
theorem inb_s (i : Fin 20) : ∀ a, (![i.val, 0, 0] : Fin 3 → Nat) a + S1x16x1024.size a ≤ S20x16x1024.size a := by
  intro a
  have := i.isLt
  match a with
  | ⟨0, _⟩ => show i.val + 1 ≤ 20; omega
  | ⟨1, _⟩ => show 0 + 16 ≤ 16; omega
  | ⟨2, _⟩ => show 0 + 1024 ≤ 1024; omega
/-- Row `i` of the scales is inside the array of scales. -/
theorem slice_d : ∀ i : Fin 20, S20x1024.Slices ![i.val, 0] S1x1024 := by decide

/-- The sub-block scales of super-block `i`, a quarter of their value: integer scale times a quarter of the
    super-block's float scale. -/
def scales (v38 : FVec F S20x1024 .f32) (x3 : Vec F S20x16x1024 .i8) (i : Fin 20) : FVec F S16x1024 .f32 :=
  mulf (sitofp .f32 (shapeCast S16x1024 (View.ld x3 (Rect.unit (s := S20x16x1024) ![i.val, 0, 0] S1x16x1024.size (inb_s i))) shapeCasts_S1x16x1024_S16x1024 : IVec S16x1024 8))
    (broadcastTo S16x1024 (extractStridedSlice S1x1024 ![i.val, 0] v38 (slice_d i)) broadcasts_S1x1024_S16x1024)

/-- The low-bits words of super-block `i`. -/
def lowW (x1 : Vec F S20x128x1024 .i8) (i : Fin 20) : IVec S32x1024 32 :=
  bitcast S32x1024 32 (shapeCast S128x1024 (View.ld x1 (Rect.unit (s := S20x128x1024) ![i.val, 0, 0] S1x128x1024.size (inb_l i))) shapeCasts_S1x128x1024_S128x1024 : IVec S128x1024 8) bitcasts_S128x1024_w8_S32x1024_w32

/-- The high-bits words of super-block `i`, the upper bit of each pair flipped. -/
def highW (x2 : Vec F S20x64x1024 .i8) (i : Fin 20) : IVec S16x1024 32 :=
  xori (bitcast S16x1024 32 (shapeCast S64x1024 (View.ld x2 (Rect.unit (s := S20x64x1024) ![i.val, 0, 0] S1x64x1024.size (inb_h i))) shapeCasts_S1x64x1024_S64x1024 : IVec S64x1024 8) bitcasts_S64x1024_w8_S16x1024_w32)
    (broadcast S16x1024 2863311530#32)

/-- Four times the weights of field `k` of a super-block, four to a word. -/
def fieldW (l : IVec S32x1024 32) (h : IVec S16x1024 32) : Fin 4 → IVec S16x1024 32
  | 0 => ori (andi (shli (extractStridedSlice S16x1024 ![0, 0] l slices_S32x1024_o0_0_S16x1024) (broadcast S16x1024 2#32)) (broadcast S16x1024 1010580540#32))
      (andi (shli h (broadcast S16x1024 6#32)) (broadcast S16x1024 3233857728#32))
  | 1 => ori (andi (shli (extractStridedSlice S16x1024 ![16, 0] l slices_S32x1024_o16_0_S16x1024) (broadcast S16x1024 2#32)) (broadcast S16x1024 1010580540#32))
      (andi (shli h (broadcast S16x1024 4#32)) (broadcast S16x1024 3233857728#32))
  | 2 => ori (andi (shrui (extractStridedSlice S16x1024 ![0, 0] l slices_S32x1024_o0_0_S16x1024) (broadcast S16x1024 2#32)) (broadcast S16x1024 1010580540#32))
      (andi (shli h (broadcast S16x1024 2#32)) (broadcast S16x1024 3233857728#32))
  | 3 => ori (andi (shrui (extractStridedSlice S16x1024 ![16, 0] l slices_S32x1024_o16_0_S16x1024) (broadcast S16x1024 2#32)) (broadcast S16x1024 1010580540#32))
      (andi h (broadcast S16x1024 3233857728#32))

/-- The same as bytes, then as floats. -/
def fieldV (w : IVec S16x1024 32) : FVec F S64x1024 .bf16 :=
  sitofp .bf16 (bitcast S64x1024 8 w bitcasts_S16x1024_w32_S64x1024_w8 : IVec S64x1024 8)

/-- Row `o` of the sixteen scales is one of their rows. -/
theorem slice_o : ∀ o : Fin 16, S16x1024.Slices ![o.val, 0] S1x1024 := by decide
/-- Sixteen rows from `16·p` on are inside a field's sixty-four. -/
theorem slice_p : ∀ p : Fin 4, S64x1024.Slices ![16 * p.val, 0] S16x1024 := by decide

/-- Sub-block `o`: sixteen rows of a field times one scale. -/
def sub (s : FVec F S16x1024 .f32) (v : FVec F S64x1024 .bf16) (o : Fin 16) (p : Fin 4) : FVec F S16x1024 .bf16 :=
  mulf (extractStridedSlice S16x1024 ![16 * p.val, 0] v (slice_p p))
    (broadcastTo S16x1024 (shapeCast S1x1024 (truncf .bf16 (extractStridedSlice S1x1024 ![o.val, 0] s (slice_o o)) bitsLt_bf16_f32) shapeCasts_S1x1024_S1x1024) broadcasts_S1x1024_S16x1024)

/-- The dequantised weights of a super-block: sixteen sub-blocks one below the other. -/
def weights (s : FVec F S16x1024 .f32) (v0 v1 v2 v3 : FVec F S64x1024 .bf16) : FVec F S256x1024 .bf16 :=
  concatenate S256x1024 0 [⟨S16x1024, sub s v0 0 0⟩, ⟨S16x1024, sub s v0 1 1⟩, ⟨S16x1024, sub s v0 2 2⟩, ⟨S16x1024, sub s v0 3 3⟩,
    ⟨S16x1024, sub s v1 4 0⟩, ⟨S16x1024, sub s v1 5 1⟩, ⟨S16x1024, sub s v1 6 2⟩, ⟨S16x1024, sub s v1 7 3⟩,
    ⟨S16x1024, sub s v2 8 0⟩, ⟨S16x1024, sub s v2 9 1⟩, ⟨S16x1024, sub s v2 10 2⟩, ⟨S16x1024, sub s v2 11 3⟩,
    ⟨S16x1024, sub s v3 12 0⟩, ⟨S16x1024, sub s v3 13 1⟩, ⟨S16x1024, sub s v3 14 2⟩, ⟨S16x1024, sub s v3 15 3⟩]
    concatenates_S16x1024_S16x1024_S16x1024_S16x1024_S16x1024_S16x1024_S16x1024_S16x1024_S16x1024_S16x1024_S16x1024_S16x1024_S16x1024_S16x1024_S16x1024_S16x1024_S256x1024_d0

/-- The dequantised weights of super-block `i` of the blocks held. -/
def blockW (x1 : Vec F S20x128x1024 .i8) (x2 : Vec F S20x64x1024 .i8) (x3 : Vec F S20x16x1024 .i8) (x4 : Vec F S20x1024 .i16) (i : Fin 20) : FVec F S256x1024 .bf16 :=
  weights (scales (k0_pay4 (View.ld x4 r0_0)) x3 i) (fieldV (fieldW (lowW x1 i) (highW x2 i) 0)) (fieldV (fieldW (lowW x1 i) (highW x2 i) 1))
    (fieldV (fieldW (lowW x1 i) (highW x2 i) 2)) (fieldV (fieldW (lowW x1 i) (highW x2 i) 3))

/-- The product of super-block `i`. -/
def prod (x0 : Vec F S256x5120 .bf16) (x1 : Vec F S20x128x1024 .i8) (x2 : Vec F S20x64x1024 .i8) (x3 : Vec F S20x16x1024 .i8) (x4 : Vec F S20x1024 .i16) (i : Fin 20) : FVec F S256x1024 .f32 :=
  matmul dot_S256x256_S256x1024_S256x1024_1_0_0_1_n_n none
    (shapeCast S256x256 (View.ld x0 (Rect.unit (s := S256x5120) ![0, 256 * i.val] S256x256.size (inb_x i))) shapeCasts_S256x256_S256x256 : FVec F S256x256 .bf16)
    (blockW x1 x2 x3 x4 i) (constant S256x1024 .f32 0x00000000#32)

/-- The running sum after super-block `n`. -/
def acc (x0 : Vec F S256x5120 .bf16) (x1 : Vec F S20x128x1024 .i8) (x2 : Vec F S20x64x1024 .i8) (x3 : Vec F S20x16x1024 .i8) (x4 : Vec F S20x1024 .i16) : (n : Nat) → n < 20 → FVec F S256x1024 .f32
  | 0, h => prod x0 x1 x2 x3 x4 ⟨0, h⟩
  | n + 1, h => addf (acc x0 x1 x2 x3 x4 n (Nat.lt_of_succ_lt h)) (prod x0 x1 x2 x3 x4 ⟨n + 1, h⟩)

set_option maxRecDepth 100000 in
set_option maxHeartbeats 4000000 in
/-- What the body stores is the rounded sum over the twenty super-blocks. -/
theorem out_eq (x0 : Vec F S256x5120 .bf16) (x1 : Vec F S20x128x1024 .i8) (x2 : Vec F S20x64x1024 .i8) (x3 : Vec F S20x16x1024 .i8) (x4 : Vec F S20x1024 .i16) :
    out0_5 x0 x1 x2 x3 x4 = View.canon [⟨r0_81, truncf .bf16 (acc x0 x1 x2 x3 x4 19 (by decide)) bitsLt_bf16_f32⟩] := by
  rfl

end Cert.Q6K

end
-- ==== Proof.Q6K.Code.lean ====
/-
  One byte of packed codes: what the kernel makes of it in words, what the reference makes of it in integers, and the code both hold.
-/
module

public import Idealize.ShloMosaic.Lib.Pointwise
public import Idealize.ShloMosaic.Lib.BitcastFour

@[expose] public section

noncomputable section

namespace Cert.Q6K

open Idealize.ShloMosaic

/-- One byte of the words of a field: four times the code of weight less 32, as a signed byte. -/
def byteOf : Fin 4 → BitVec 8 → BitVec 8 → BitVec 8
  | 0, b, q => ((b <<< 2) &&& 0x3C#8) ||| (((q ^^^ 0xAA#8) <<< 6) &&& 0xC0#8)
  | 1, b, q => ((b <<< 2) &&& 0x3C#8) ||| (((q ^^^ 0xAA#8) <<< 4) &&& 0xC0#8)
  | 2, b, q => ((b >>> 2) &&& 0x3C#8) ||| (((q ^^^ 0xAA#8) <<< 2) &&& 0xC0#8)
  | 3, b, q => ((b >>> 2) &&& 0x3C#8) ||| ((q ^^^ 0xAA#8) &&& 0xC0#8)

/-- The code of a weight: four low bits, two high bits. -/
def codeOf (k : Fin 4) (b q : BitVec 8) : Nat := b.toNat / 16 ^ (k.val / 2) % 16 + 16 * (q.toNat / 4 ^ k.val % 4)

/-- The low bits of a byte of field `k`. -/
theorem byteOf_lo : ∀ b : BitVec 8, ((b <<< 2) &&& 0x3C#8) = BitVec.ofNat 8 (4 * (b.toNat % 16)) := by decide +kernel
/-- The upper four bits of a low-bits byte, in the kernel's position. -/
theorem byteOf_hi : ∀ b : BitVec 8, ((b >>> 2) &&& 0x3C#8) = BitVec.ofNat 8 (4 * (b.toNat / 16 % 16)) := by decide +kernel
/-- The first two bits of a high-bits byte, the upper one flipped, in the kernel's position. -/
theorem byteOf_q0 : ∀ q : BitVec 8, (((q ^^^ 0xAA#8) <<< 6) &&& 0xC0#8) = BitVec.ofNat 8 (64 * ((q.toNat % 4) ^^^ 2)) := by decide +kernel
/-- The second two bits, likewise. -/
theorem byteOf_q1 : ∀ q : BitVec 8, (((q ^^^ 0xAA#8) <<< 4) &&& 0xC0#8) = BitVec.ofNat 8 (64 * ((q.toNat / 4 % 4) ^^^ 2)) := by decide +kernel
/-- The third two bits, likewise. -/
theorem byteOf_q2 : ∀ q : BitVec 8, (((q ^^^ 0xAA#8) <<< 2) &&& 0xC0#8) = BitVec.ofNat 8 (64 * ((q.toNat / 16 % 4) ^^^ 2)) := by decide +kernel
/-- The fourth two bits, likewise. -/
theorem byteOf_q3 : ∀ q : BitVec 8, ((q ^^^ 0xAA#8) &&& 0xC0#8) = BitVec.ofNat 8 (64 * ((q.toNat / 64 % 4) ^^^ 2)) := by decide +kernel
/-- The two parts joined, read as a signed byte: four times the code less 32. -/
theorem join_toInt : ∀ (a : Fin 16) (c : Fin 4), (BitVec.ofNat 8 (4 * a.val) ||| BitVec.ofNat 8 (64 * (c.val ^^^ 2))).toInt = 4 * (((a.val + 16 * c.val : Nat) : Int) - 32) := by decide +kernel

/-- Read as a signed byte it is four times the code less 32. -/
theorem byteOf_toInt (k : Fin 4) (b q : BitVec 8) : (byteOf k b q).toInt = 4 * ((codeOf k b q : Int) - 32) := by
  match k with
  | 0 => simpa [byteOf, codeOf, byteOf_lo, byteOf_q0] using join_toInt ⟨b.toNat % 16, by omega⟩ ⟨q.toNat % 4, by omega⟩
  | 1 => simpa [byteOf, codeOf, byteOf_lo, byteOf_q1] using join_toInt ⟨b.toNat % 16, by omega⟩ ⟨q.toNat / 4 % 4, by omega⟩
  | 2 => simpa [byteOf, codeOf, byteOf_hi, byteOf_q2] using join_toInt ⟨b.toNat / 16 % 16, by omega⟩ ⟨q.toNat / 16 % 4, by omega⟩
  | 3 => simpa [byteOf, codeOf, byteOf_hi, byteOf_q3] using join_toInt ⟨b.toNat / 16 % 16, by omega⟩ ⟨q.toNat / 64 % 4, by omega⟩

/-- One word of field `k`, of a low-bits word and a high-bits word with the flip. -/
def wordOf : Fin 4 → BitVec 32 → BitVec 32 → BitVec 32
  | 0, a, h => ((a <<< 2) &&& 0x3C3C3C3C#32) ||| (((h ^^^ 0xAAAAAAAA#32) <<< 6) &&& 0xC0C0C0C0#32)
  | 1, a, h => ((a <<< 2) &&& 0x3C3C3C3C#32) ||| (((h ^^^ 0xAAAAAAAA#32) <<< 4) &&& 0xC0C0C0C0#32)
  | 2, a, h => ((a >>> 2) &&& 0x3C3C3C3C#32) ||| (((h ^^^ 0xAAAAAAAA#32) <<< 2) &&& 0xC0C0C0C0#32)
  | 3, a, h => ((a >>> 2) &&& 0x3C3C3C3C#32) ||| ((h ^^^ 0xAAAAAAAA#32) &&& 0xC0C0C0C0#32)

/-- The masks keep the four bytes of a word apart: byte `c` of a field's word is `byteOf` of the bytes `c`. -/
theorem wordOf_byte (k : Fin 4) (L H : BitVec 32) (b q : BitVec 8) (c : Nat) (hc : c < 4)
    (hL : ∀ j < 8, L.getLsbD (8 * c + j) = b.getLsbD j) (hH : ∀ j < 8, H.getLsbD (8 * c + j) = q.getLsbD j) (j : Nat) (hj : j < 8) :
    (wordOf k L H).getLsbD (8 * c + j) = (byteOf k b q).getLsbD j := by
  have L0 := hL 0 (by decide); have L1 := hL 1 (by decide); have L2 := hL 2 (by decide); have L3 := hL 3 (by decide)
  have L4 := hL 4 (by decide); have L5 := hL 5 (by decide); have L6 := hL 6 (by decide); have L7 := hL 7 (by decide)
  have H0 := hH 0 (by decide); have H1 := hH 1 (by decide); have H2 := hH 2 (by decide); have H3 := hH 3 (by decide)
  have H4 := hH 4 (by decide); have H5 := hH 5 (by decide); have H6 := hH 6 (by decide); have H7 := hH 7 (by decide)
  clear hL hH
  fin_cases k <;> interval_cases c <;> interval_cases j <;> simp_all [wordOf, byteOf]

/-- The code as the reference computes it, in integers. -/
def codeW (k : Fin 4) (b q : BitVec 8) : BitVec 32 :=
  IntOp.ori (IntOp.andi (IntOp.shrsi .host (b.setWidth 32) (BitVec.ofNat 32 (4 * (k.val / 2)))) (BitVec.ofNat 32 15))
    (IntOp.shli .host (IntOp.andi (IntOp.shrsi .host (q.setWidth 32) (BitVec.ofNat 32 (2 * k.val))) (BitVec.ofNat 32 3)) (BitVec.ofNat 32 4))

/-- The four low bits. -/
theorem codeW_lo : ∀ (k : Fin 4) (b : BitVec 8), IntOp.andi (IntOp.shrsi .host (b.setWidth 32) (BitVec.ofNat 32 (4 * (k.val / 2)))) (BitVec.ofNat 32 15)
    = BitVec.ofNat 32 (b.toNat / 16 ^ (k.val / 2) % 16) := by decide +kernel
/-- The two high bits. -/
theorem codeW_hi : ∀ (k : Fin 4) (q : BitVec 8), IntOp.andi (IntOp.shrsi .host (q.setWidth 32) (BitVec.ofNat 32 (2 * k.val))) (BitVec.ofNat 32 3)
    = BitVec.ofNat 32 (q.toNat / 4 ^ k.val % 4) := by decide +kernel
/-- The join of the two. -/
theorem codeW_join : ∀ (a : Fin 16) (c : Fin 4), (IntOp.ori (BitVec.ofNat 32 a.val) (IntOp.shli .host (BitVec.ofNat 32 c.val) (BitVec.ofNat 32 4))).toInt = ((a.val + 16 * c.val : Nat) : Int) := by
  decide +kernel

/-- As an integer it is the code. -/
theorem codeW_toInt (k : Fin 4) (b q : BitVec 8) : (codeW k b q).toInt = (codeOf k b q : Int) := by
  unfold codeW codeOf
  rw [codeW_lo, codeW_hi]
  exact codeW_join ⟨_, Nat.mod_lt _ (by decide)⟩ ⟨_, Nat.mod_lt _ (by decide)⟩

end Cert.Q6K

end
-- ==== Proof.Q6K.HalfBits.lean ====
/-
  The fields of the single-precision patterns that the kernel builds of a half-precision one.
-/
module

public import Idealize.ShloMosaic.Lib.Pointwise
public import Idealize.ShloMosaic.Lib.BitcastFour

@[expose] public section

noncomputable section

namespace Cert.Q6K

open Idealize.ShloMosaic

/-- The fields of the single-precision pattern put together from exponent and significand. -/
theorem single_fields : ∀ (e : BitVec 5) (f : BitVec 10),
    let w : BitVec 32 := ((e.setWidth 32 + 112#32) <<< 23) ||| (f.setWidth 32 <<< 13)
    w.extractLsb' 31 1 = 0#1 ∧ (w.extractLsb' 23 8).toNat = e.toNat + 112 ∧ (w.extractLsb' 0 23).toNat = f.toNat * 8192 := by
  decide +kernel
/-- The fields of the single-precision pattern of an infinity or a NaN. -/
theorem special_fields : ∀ (f : BitVec 10),
    let w : BitVec 32 := 2139095040#32 ||| (f.setWidth 32 <<< 13)
    w.extractLsb' 31 1 = 0#1 ∧ (w.extractLsb' 23 8).toNat = 255 ∧ (w.extractLsb' 0 23).toNat = f.toNat * 8192 := by
  decide +kernel

end Cert.Q6K

end
-- ==== Proof.Q6K.Half.lean ====
/-
  A half-precision scale, taken apart from its bits as the kernel does it: the number that the pattern denotes.
-/
module

public import proofs.«01_k».proof.Proof.Q6K.HalfBits

@[expose] public section

noncomputable section

namespace Cert.Q6K

open Idealize.ShloMosaic

/-- The exponent that the kernel masks out is the pattern's. -/
theorem half_exp (h : BitVec 16) : (h.signExtend 32).sshiftRight 10 &&& 31#32 = (h.extractLsb' 10 5).setWidth 32 := by
  apply BitVec.eq_of_getLsbD_eq
  intro i hi
  interval_cases i <;> simp [BitVec.getLsbD_sshiftRight, BitVec.getLsbD_signExtend, BitVec.getElem_sshiftRight, BitVec.getElem_signExtend]
/-- The significand that the kernel masks out is the pattern's. -/
theorem half_man (h : BitVec 16) : h.signExtend 32 &&& 1023#32 = (h.extractLsb' 0 10).setWidth 32 := by
  apply BitVec.eq_of_getLsbD_eq
  intro i hi
  interval_cases i <;> simp [BitVec.getLsbD_signExtend, BitVec.getElem_signExtend]
/-- The sign that the kernel masks out is the pattern's. -/
theorem half_sgn (h : BitVec 16) : h.signExtend 32 &&& 32768#32 = (h.extractLsb' 15 1).setWidth 32 <<< 15 := by
  apply BitVec.eq_of_getLsbD_eq
  intro i hi
  interval_cases i <;> simp [BitVec.getLsbD_signExtend, BitVec.getElem_signExtend]

/-- What the kernel makes of a half-precision pattern: the value of its number. -/
def halfK (h : BitVec 16) : EReal :=
  let w : BitVec 32 := h.signExtend 32
  let e : BitVec 32 := w.sshiftRight 10 &&& 31#32
  let f : BitVec 32 := w &&& 1023#32
  let mag : EReal := if e = 0#32 then (((f.toInt : ℝ) : EReal)) * Ideal.ieee 8 23 0x33800000#32
    else if e = 31#32 then Ideal.ieee 8 23 (2139095040#32 ||| (f <<< 13)) else Ideal.ieee 8 23 (((e + 112#32) <<< 23) ||| (f <<< 13))
  if w &&& 32768#32 ≠ 0#32 then 0 - mag else mag

/-- The factor of subnormal numbers is two to the power −24. -/
theorem eps_eq : Ideal.ieee 8 23 0x33800000#32 = (((2 : ℝ) ^ (-24 : Int) : ℝ) : EReal) := by
  simp [Ideal.ieee, -EReal.coe_mul]; norm_num

/-- A significand widened to a word is non-negative. -/
theorem man_toInt : ∀ f : BitVec 10, (f.setWidth 32).toInt = (f.toNat : Int) := by decide +kernel
/-- The kernel's two tests of the exponent are those of the exponent's number. -/
theorem exp_zero : ∀ e : BitVec 5, (e.setWidth 32 = 0#32 ↔ e.toNat = 0) ∧ (e.setWidth 32 = 31#32 ↔ e.toNat = 31) ∧ e.toNat < 32 := by decide +kernel
/-- The kernel's test of the sign is the sign bit. -/
theorem sgn_zero : ∀ b : BitVec 1, b.setWidth 32 <<< 15 ≠ 0#32 ↔ (b == 1#1) = true := by decide +kernel
/-- A negative pattern with the largest exponent that is not a NaN has significand zero. -/
theorem man_zero (h : BitVec 16) (hn : BitVec.ule 0xFC01#16 h = false) (hs : (h.extractLsb' 15 1 == 1#1) = true) (he : (h.extractLsb' 10 5).toNat = 31) :
    (h.extractLsb' 0 10).toNat = 0 := by
  have e1 : h.toNat / 1024 % 32 = 31 := by simpa [BitVec.extractLsb'_toNat, Nat.shiftRight_eq_div_pow] using he
  have e2 : h.toNat / 32768 % 2 = 1 := by
    have := congrArg BitVec.toNat (eq_of_beq hs)
    simpa [BitVec.extractLsb'_toNat, Nat.shiftRight_eq_div_pow] using this
  have e3 : ¬ 0xFC01 ≤ h.toNat := by simpa [BitVec.ule] using hn
  have := h.isLt
  simp only [BitVec.extractLsb'_toNat, Nat.shiftRight_eq_div_pow]
  omega

/-- For every pattern but a NaN with its sign bit set it is the number that the pattern denotes. -/
theorem halfK_eq (h : BitVec 16) (hn : BitVec.ule 0xFC01#16 h = false) : halfK h = Ideal.ieee 5 10 h := by
  have mz := man_zero h hn
  unfold halfK
  simp only [half_exp, half_man, half_sgn, man_toInt, eps_eq, sgn_zero, (exp_zero _).1, (exp_zero _).2.1]
  have lt := (exp_zero (h.extractLsb' 10 5)).2.2
  obtain ⟨a1, a2, a3⟩ := single_fields (h.extractLsb' 10 5) (h.extractLsb' 0 10)
  obtain ⟨b1, b2, b3⟩ := special_fields (h.extractLsb' 0 10)
  simp only [Ideal.ieee, a1, a2, a3, b1, b2, b3]
  generalize (h.extractLsb' 10 5).toNat = e at *
  generalize (h.extractLsb' 0 10).toNat = f at *
  generalize (h.extractLsb' 15 1 == 1#1) = s at *
  clear a1 a2 a3 b1 b2 b3
  by_cases h0 : e = 0
  · subst h0
    have n1 : ¬ (0 : ℕ) = 2 ^ 5 - 1 := by decide
    simp only [n1, ↓reduceIte, Int.cast_natCast]
    have key (t : ℝ) : t * (f : ℝ) * (2 : ℝ) ^ (1 - (2 ^ (5 - 1) - 1) - (10 : ℕ) : Int) = t * ((f : ℝ) * (2 : ℝ) ^ (-24 : Int)) := by
      norm_num [mul_assoc]
    rw [key, ← EReal.coe_mul]
    cases s
    · simp only [Bool.false_eq_true, ↓reduceIte, one_mul]
    · simp only [↓reduceIte]
      rw [zero_sub, neg_one_mul, EReal.coe_neg]
  rw [if_neg h0]
  by_cases h1 : e = 31
  · subst h1
    cases s
    · by_cases hf : f = 0 <;> simp [hf]
    · simp [mz rfl rfl]
  · rw [if_neg h1, if_neg (show ¬ e + 112 = 2 ^ 8 - 1 by omega), if_neg (show ¬ e + 112 = 0 by omega), if_neg (show ¬ e = 2 ^ 5 - 1 by omega), if_neg h0]
    have key (t : ℝ) : t * ((2 ^ 23 + f * 8192 : ℕ) : ℝ) * (2 : ℝ) ^ (((e + 112 : ℕ) : Int) - (2 ^ (8 - 1) - 1) - (23 : ℕ))
        = t * (((2 ^ 10 + f : ℕ) : ℝ) * (2 : ℝ) ^ ((e : Int) - (2 ^ (5 - 1) - 1) - (10 : ℕ))) := by
      have : (((e + 112 : ℕ) : Int) - (2 ^ (8 - 1) - 1) - (23 : ℕ)) = ((e : Int) - (2 ^ (5 - 1) - 1) - (10 : ℕ)) + (-13) := by push_cast; ring
      rw [this, zpow_add₀ (by norm_num : (2 : ℝ) ≠ 0)]
      push_cast
      norm_num
      ring
    have n0 : ¬ (0#1 == 1#1) = true := by decide
    simp only [n0, Bool.false_eq_true, ↓reduceIte]
    rw [key, mul_assoc]
    cases s
    · simp only [Bool.false_eq_true, ↓reduceIte, one_mul]
    · simp only [↓reduceIte, one_mul]
      rw [zero_sub, neg_one_mul, EReal.coe_neg]

end Cert.Q6K

end
-- ==== Proof.Q6K.KVal.lean ====
/-
  What one grid point of the kernel computes, element by element: the sum over super-blocks and rows of activation times weight.
-/
module

public import proofs.«01_k».proof.Proof.Q6K.Block
public import proofs.«01_k».proof.Proof.Q6K.Code
public import proofs.«01_k».proof.Proof.Q6K.Half
public import Idealize.ShloMosaic.Lib.Pointwise
public import Idealize.ShloMosaic.Lib.BitcastFour

@[expose] public section

noncomputable section

namespace Cert.Q6K

open Cert.KernelIdeal Cert.KernelIdeal.Gen Idealize.ShloMosaic

/-- An element of a sub-block: the weight of that row times the sub-block's scale. -/
theorem sub_apply (s : FVec Ideal S16x1024 .f32) (v : FVec Ideal S64x1024 .bf16) (o : Fin 16) (p : Fin 4) (a : Fin 16) (n : Fin 1024) :
    sub s v o p (ix2 a n) = v (ix2 ⟨16 * p.val + a.val, by omega⟩ n) * s (ix2 o n) := by
  pointwise [sub]

/-- Row `o` of super-block `i` of a block of bytes, read where it was loaded. -/
theorem row_load {M : Nat} (x : (⟨3, ![20, M, 1024]⟩ : Shape).Idx → BitVec 8) (i : Fin 20) (h) (hc : (⟨3, ![1, M, 1024]⟩ : Shape).ShapeCasts ⟨2, ![M, 1024]⟩) (o : Fin M) (n : Fin 1024) :
    shapeCast ⟨2, ![M, 1024]⟩ (fun j => x ((Rect.unit (s := (⟨3, ![20, M, 1024]⟩ : Shape)) ![i.val, 0, 0] ![1, M, 1024] h).toLoadRect.idx j)) hc (ix2 o n) = x (ix3 i o n) := by
  refine (shapeCast_dropUnit_apply ![M, 1024] _ hc (ix2 o n)).trans ?_
  refine congrArg x (funext fun a => ?_)
  match a with
  | ⟨0, _⟩ => exact Fin.ext (by show i.val + 1 * 0 = i.val; omega)
  | ⟨1, _⟩ => exact Fin.ext (by show 0 + 1 * o.val = o.val; omega)
  | ⟨2, _⟩ => exact Fin.ext (by show 0 + 1 * n.val = n.val; omega)

/-- A scale of super-block `i`: its integer times the quarter of the super-block's factor. -/
theorem scales_apply (v38 : FVec Ideal S20x1024 .f32) (x3 : Vec Ideal S20x16x1024 .i8) (i : Fin 20) (o : Fin 16) (n : Fin 1024) :
    scales v38 x3 i (ix2 o n) = (((x3 (ix3 i o n)).toInt : ℝ) : EReal) * v38 (ix2 i n) := by
  refine congrArg₂ (fun a b : EReal => a * b) ?_ ?_
  · exact congrArg (fun b : BitVec 8 => ((b.toInt : ℝ) : EReal)) (row_load (M := 16) x3 i (inb_s i) shapeCasts_S1x16x1024_S16x1024 o n)
  · refine (broadcastTo_apply _ broadcasts_S1x1024_S16x1024 _ (ix2 0 n) (fun a => match a with
      | ⟨0, _⟩ => rfl
      | ⟨1, _⟩ => rfl)).trans ?_
    exact extractStridedSlice_apply _ _ (slice_d i) _ (ix2 i n) (fun a => match a with
      | ⟨0, _⟩ => rfl
      | ⟨1, _⟩ => by show n.val = 0 + n.val; omega)

/-- A selection on equality is a case distinction. -/
theorem sel_eq {w : Nat} {α : Type} (a b : BitVec w) (x y : α) : Scalar.select (IntOp.cmpi .eq a b) x y = if a = b then x else y := by
  by_cases h : a = b
  · simp [Scalar.select, IntOp.cmpi, h]
  · have hb : (a == b) = false := by simpa using h
    simp [Scalar.select, IntOp.cmpi, h, hb]
/-- A selection on inequality is a case distinction. -/
theorem sel_ne {w : Nat} {α : Type} (a b : BitVec w) (x y : α) : Scalar.select (IntOp.cmpi .ne a b) x y = if a ≠ b then x else y := by
  by_cases h : a = b
  · simp [Scalar.select, IntOp.cmpi, h]
  · have hb : (a != b) = true := by simpa using h
    simp [Scalar.select, IntOp.cmpi, h, hb]

/-- A quarter of the factor that a half-precision pattern denotes, as the kernel decodes it. -/
theorem pay4_apply (x4 : Vec Ideal S20x1024 .i16) (i : Fin 20) (n : Fin 1024) :
    k0_pay4 (F := Ideal) x4 (ix2 i n) = halfK (x4 (ix2 i n)) * ((1 / 4 : ℝ) : EReal) := by
  pointwise [k0_pay4]
  have e : Ideal.ofBits FTy.f32 1048576000#32 = ((1 / 4 : ℝ) : EReal) := by
    simp [Ideal.ofBits, Ideal.ieee, -EReal.coe_mul]; norm_num
  rw [e]
  congr 1
  unfold halfK
  simp only [sel_eq, sel_ne]
  rfl

/-- Row `r` of the weights: row `r % 64` of field `r / 64`, times scale `r / 16`. -/
theorem weights_apply (s : FVec Ideal S16x1024 .f32) (v : Fin 4 → FVec Ideal S64x1024 .bf16) (r : Fin 256) (n : Fin 1024) :
    weights s (v 0) (v 1) (v 2) (v 3) (ix2 r n) = v ⟨r.val / 64, by omega⟩ (ix2 ⟨r.val % 64, by omega⟩ n) * s (ix2 ⟨r.val / 16, by omega⟩ n) := by
  have e : weights s (v 0) (v 1) (v 2) (v 3) = concatenate S256x1024 0 (List.ofFn fun o : Fin 16 => (⟨S16x1024, sub s (v ⟨o.val / 4, by omega⟩) o ⟨o.val % 4, by omega⟩⟩ : (s : Shape) × (s.Idx → EReal)))
    concatenates_S16x1024_S16x1024_S16x1024_S16x1024_S16x1024_S16x1024_S16x1024_S16x1024_S16x1024_S16x1024_S16x1024_S16x1024_S16x1024_S16x1024_S16x1024_S16x1024_S256x1024_d0 := rfl
  rw [e]
  refine (concatenate_ofFn_apply (t := S256x1024) (s₁ := S16x1024) 0 (fun o : Fin 16 => sub s (v ⟨o.val / 4, by omega⟩) o ⟨o.val % 4, by omega⟩)
    concatenates_S16x1024_S16x1024_S16x1024_S16x1024_S16x1024_S16x1024_S16x1024_S16x1024_S16x1024_S16x1024_S16x1024_S16x1024_S16x1024_S16x1024_S16x1024_S16x1024_S256x1024_d0
    rfl 16 rfl (ix2 r n) ⟨r.val / 16, by omega⟩ rfl (ix2 ⟨r.val % 16, by omega⟩ n) rfl ?_).trans ?_
  · intro b hb
    match b with
    | ⟨0, _⟩ => exact absurd rfl hb
    | ⟨1, _⟩ => rfl
  · rw [sub_apply]
    have e1 : (⟨r.val / 16 / 4, by omega⟩ : Fin 4) = ⟨r.val / 64, by omega⟩ := Fin.ext (by show r.val / 16 / 4 = r.val / 64; omega)
    have e2 : (⟨16 * (r.val / 16 % 4) + r.val % 16, by omega⟩ : Fin 64) = ⟨r.val % 64, by omega⟩ :=
      Fin.ext (by show 16 * (r.val / 16 % 4) + r.val % 16 = r.val % 64; omega)
    show v (⟨r.val / 16 / 4, by omega⟩ : Fin 4) (ix2 (⟨16 * (r.val / 16 % 4) + r.val % 16, by omega⟩ : Fin 64) n) * _ = _
    rw [e1, e2]

/-- Byte row `ρ` of a field's words, of the low row `64 * (k % 2) + ρ` and the high row `ρ`. -/
theorem field_apply (x1 : Vec Ideal S20x128x1024 .i8) (x2 : Vec Ideal S20x64x1024 .i8) (i : Fin 20) (k : Fin 4) (ρ : Fin 64) (n : Fin 1024) :
    fieldV (F := Ideal) (fieldW (lowW x1 i) (highW x2 i) k) (ix2 ρ n)
      = (((byteOf k (x1 (ix3 i ⟨64 * (k.val % 2) + ρ.val, by omega⟩ n)) (x2 (ix3 i ρ n))).toInt : ℝ) : EReal) := by
  have hρ := ρ.isLt
  refine congrArg (fun b : BitVec 8 => ((b.toInt : ℝ) : EReal)) ?_
  apply BitVec.eq_of_getLsbD_eq
  intro j hj
  have hb : (bitcast S64x1024 8 (fieldW (lowW x1 i) (highW x2 i) k) bitcasts_S16x1024_w32_S64x1024_w8 (ix2 ρ n)).getLsbD j
      = (fieldW (lowW x1 i) (highW x2 i) k (ix2 ⟨ρ.val / 4, by omega⟩ n)).getLsbD (8 * (ρ.val % 4) + j) := by
    rw [bitcast_getLsbD _ bitcasts_S16x1024_w32_S64x1024_w8 _ j hj (by decide)]
    have e1 : (S64x1024.row (ix2 ρ n) * 8 + j) / 32 = ρ.val / 4 := by show (ρ.val * 8 + j) / 32 = ρ.val / 4; omega
    have e2 : (S64x1024.row (ix2 ρ n) * 8 + j) % 32 = 8 * (ρ.val % 4) + j := by show (ρ.val * 8 + j) % 32 = _; omega
    rw [e2]
    congr 2
    funext c
    match c with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  refine hb.trans ?_
  have hw : fieldW (lowW x1 i) (highW x2 i) k (ix2 ⟨ρ.val / 4, by omega⟩ n)
      = wordOf k (lowW x1 i (ix2 ⟨16 * (k.val % 2) + ρ.val / 4, by omega⟩ n))
          (bitcast S16x1024 32 (shapeCast S64x1024 (View.ld x2 (Rect.unit (s := S20x64x1024) ![i.val, 0, 0] S1x64x1024.size (inb_h i))) shapeCasts_S1x64x1024_S64x1024 : IVec S64x1024 8) bitcasts_S64x1024_w8_S16x1024_w32 (ix2 ⟨ρ.val / 4, by omega⟩ n)) := by
    have e0 : extractStridedSlice S16x1024 ![0, 0] (lowW x1 i) slices_S32x1024_o0_0_S16x1024 (ix2 ⟨ρ.val / 4, by omega⟩ n) = lowW x1 i (ix2 ⟨ρ.val / 4, by omega⟩ n) :=
      extractStridedSlice_apply _ _ slices_S32x1024_o0_0_S16x1024 _ _ (fun a => match a with
        | ⟨0, _⟩ => by show ρ.val / 4 = 0 + ρ.val / 4; omega
        | ⟨1, _⟩ => by show n.val = 0 + n.val; omega)
    have e1 : extractStridedSlice S16x1024 ![16, 0] (lowW x1 i) slices_S32x1024_o16_0_S16x1024 (ix2 ⟨ρ.val / 4, by omega⟩ n) = lowW x1 i (ix2 ⟨16 + ρ.val / 4, by omega⟩ n) :=
      extractStridedSlice_apply _ _ slices_S32x1024_o16_0_S16x1024 _ _ (fun a => match a with
        | ⟨0, _⟩ => rfl
        | ⟨1, _⟩ => by show n.val = 0 + n.val; omega)
    have e2 : (⟨16 * 0 + ρ.val / 4, by omega⟩ : Fin 32) = ⟨ρ.val / 4, by omega⟩ := Fin.ext (by show 16 * 0 + ρ.val / 4 = ρ.val / 4; omega)
    match k with
    | 0 => show _ = wordOf 0 (lowW x1 i (ix2 (⟨16 * 0 + ρ.val / 4, by omega⟩ : Fin 32) n)) _; rw [e2, ← e0]; rfl
    | 1 => show _ = wordOf 1 (lowW x1 i (ix2 (⟨16 + ρ.val / 4, by omega⟩ : Fin 32) n)) _; rw [← e1]; rfl
    | 2 => show _ = wordOf 2 (lowW x1 i (ix2 (⟨16 * 0 + ρ.val / 4, by omega⟩ : Fin 32) n)) _; rw [e2, ← e0]; rfl
    | 3 => show _ = wordOf 3 (lowW x1 i (ix2 (⟨16 + ρ.val / 4, by omega⟩ : Fin 32) n)) _; rw [← e1]; rfl
  rw [hw]
  refine wordOf_byte k _ _ _ _ (ρ.val % 4) (by omega) ?_ ?_ j hj
  · intro j hj
    unfold lowW
    refine (bitcast_8_32_getLsbD_ix2 _ bitcasts_S128x1024_w8_S32x1024_w32 (⟨16 * (k.val % 2) + ρ.val / 4, by omega⟩ : Fin 32) n (8 * (ρ.val % 4) + j) (by omega) (⟨64 * (k.val % 2) + ρ.val, by omega⟩ : Fin 128)
      (by show 64 * (k.val % 2) + ρ.val = 4 * (16 * (k.val % 2) + ρ.val / 4) + (8 * (ρ.val % 4) + j) / 8; omega)).trans ?_
    rw [show (8 * (ρ.val % 4) + j) % 8 = j by omega]
    exact congrArg (fun b : BitVec 8 => b.getLsbD j) (row_load (M := 128) x1 i (inb_l i) shapeCasts_S1x128x1024_S128x1024 ⟨64 * (k.val % 2) + ρ.val, by omega⟩ n)
  · intro j hj
    refine (bitcast_8_32_getLsbD_ix2 _ bitcasts_S64x1024_w8_S16x1024_w32 (⟨ρ.val / 4, by omega⟩ : Fin 16) n (8 * (ρ.val % 4) + j) (by omega) ρ
      (by show ρ.val = 4 * (ρ.val / 4) + (8 * (ρ.val % 4) + j) / 8; omega)).trans ?_
    rw [show (8 * (ρ.val % 4) + j) % 8 = j by omega]
    exact congrArg (fun b : BitVec 8 => b.getLsbD j) (row_load (M := 64) x2 i (inb_h i) shapeCasts_S1x64x1024_S64x1024 ρ n)

/-- An element of the product of super-block `i`: the sum over its 256 rows. -/
theorem prod_apply (x0 : Vec Ideal S256x5120 .bf16) (x1 : Vec Ideal S20x128x1024 .i8) (x2 : Vec Ideal S20x64x1024 .i8) (x3 : Vec Ideal S20x16x1024 .i8) (x4 : Vec Ideal S20x1024 .i16) (i : Fin 20) (a : Fin 256) (n : Fin 1024) :
    prod x0 x1 x2 x3 x4 i (ix2 a n) = ∑ r : Fin 256, x0 (ix2 a ⟨256 * i.val + r.val, by omega⟩) * blockW x1 x2 x3 x4 i (ix2 r n) := by
  pointwise [prod]

/-- A weight of super-block `i`, row `ρ`, column `c`, as the kernel computes it from arrays of `C` columns. -/
def wgt {C : Nat} (a1 : (⟨3, ![20, 128, C]⟩ : Shape).Idx → BitVec 8) (a2 : (⟨3, ![20, 64, C]⟩ : Shape).Idx → BitVec 8) (a3 : (⟨3, ![20, 16, C]⟩ : Shape).Idx → BitVec 8)
    (a4 : (⟨2, ![20, C]⟩ : Shape).Idx → BitVec 16) (i : Fin 20) (ρ : Fin 256) (c : Fin C) : EReal :=
  (((byteOf ⟨ρ.val / 64, by omega⟩ (a1 (ix3 i ⟨64 * (ρ.val / 64 % 2) + ρ.val % 64, by omega⟩ c)) (a2 (ix3 i ⟨ρ.val % 64, by omega⟩ c))).toInt : ℝ) : EReal)
    * ((((a3 (ix3 i ⟨ρ.val / 16, by omega⟩ c)).toInt : ℝ) : EReal) * (halfK (a4 (ix2 i c)) * ((1 / 4 : ℝ) : EReal)))

/-- The offsets of a whole-block access are zero. -/
theorem hz2 : (![0, 0] : Fin 2 → Nat) = fun _ => 0 := funext fun a => by fin_cases a <;> rfl

/-- Every element of the block's weights. -/
theorem blockW_apply (x1 : Vec Ideal S20x128x1024 .i8) (x2 : Vec Ideal S20x64x1024 .i8) (x3 : Vec Ideal S20x16x1024 .i8) (x4 : Vec Ideal S20x1024 .i16) (i : Fin 20) (r : Fin 256) (n : Fin 1024) :
    blockW x1 x2 x3 x4 i (ix2 r n) = wgt x1 x2 x3 x4 i r n := by
  unfold blockW
  rw [show View.ld x4 r0_0 = x4 from View.ld_unit_zero (S := S20x1024) hz2 _ _]
  refine (weights_apply _ (fun k => fieldV (fieldW (lowW x1 i) (highW x2 i) k)) r n).trans ?_
  rw [field_apply, scales_apply, pay4_apply]
  rfl

/-- The running sum is the sum of the products so far. -/
theorem acc_apply (x0 : Vec Ideal S256x5120 .bf16) (x1 : Vec Ideal S20x128x1024 .i8) (x2 : Vec Ideal S20x64x1024 .i8) (x3 : Vec Ideal S20x16x1024 .i8) (x4 : Vec Ideal S20x1024 .i16)
    (j : S256x1024.Idx) : ∀ (k : Nat) (h : k < 20), acc x0 x1 x2 x3 x4 k h j = ∑ i : Fin (k + 1), prod x0 x1 x2 x3 x4 ⟨i.val, by omega⟩ j
  | 0, h => by rw [Fin.sum_univ_one]; rfl
  | k + 1, h => by
    rw [Fin.sum_univ_castSucc]
    refine congrArg₂ (fun a b : EReal => a + b) (acc_apply x0 x1 x2 x3 x4 j k (Nat.lt_of_succ_lt h)) rfl

/-- What the body leaves in the block of the result: every element the sum over all super-blocks and rows. -/
theorem out_apply (x0 : Vec Ideal S256x5120 .bf16) (x1 : Vec Ideal S20x128x1024 .i8) (x2 : Vec Ideal S20x64x1024 .i8) (x3 : Vec Ideal S20x16x1024 .i8) (x4 : Vec Ideal S20x1024 .i16)
    (a : Fin 256) (n : Fin 1024) :
    out0_5 x0 x1 x2 x3 x4 (ix2 a n) = ∑ i : Fin 20, ∑ ρ : Fin 256, x0 (ix2 a ⟨256 * i.val + ρ.val, by omega⟩) * wgt x1 x2 x3 x4 i ρ n := by
  rw [out_eq]
  refine (congrFun (View.canon_unit_zero (S := S256x1024) hz2 _ _) _).trans ?_
  refine (acc_apply x0 x1 x2 x3 x4 (ix2 a n) 19 (by decide)).trans ?_
  refine Finset.sum_congr rfl fun i _ => ?_
  rw [prod_apply]
  refine Finset.sum_congr rfl fun ρ _ => ?_
  rw [blockW_apply]

end Cert.Q6K

end
-- ==== Proof.Q6K.Array.lean ====
/-
  What the kernel's result array holds after the run: each grid point reads its block of columns and writes its block of the result.
-/
module

public import proofs.«01_k».proof.Proof.Q6K.KVal
public import Idealize.ShloMosaic.Lib.Pipeline.Value

@[expose] public section

noncomputable section

namespace Cert.Q6K

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block numbers at grid point `t`: the activations' one block, block `t` of columns of everything else. -/
theorem idx_all : ∀ t : Fin grid0.N, (win0_0.index t 0 = 0 ∧ win0_0.index t 1 = 0) ∧ (win0_1.index t 0 = 0 ∧ win0_1.index t 1 = 0 ∧ win0_1.index t 2 = t.val)
    ∧ (win0_2.index t 0 = 0 ∧ win0_2.index t 1 = 0 ∧ win0_2.index t 2 = t.val) ∧ (win0_3.index t 0 = 0 ∧ win0_3.index t 1 = 0 ∧ win0_3.index t 2 = t.val)
    ∧ (win0_4.index t 0 = 0 ∧ win0_4.index t 1 = t.val) ∧ (win0_5.index t 0 = 0 ∧ win0_5.index t 1 = t.val) := by decide +kernel

/-- The grid has 27 points. -/
theorem N_27 : cfg0.N = 27 := N_0

/-- Column `n` of block `t`. -/
abbrev col (t : Fin cfg0.N) (n : Fin 1024) : Fin 27648 := ⟨1024 * t.val + n.val, by have := t.isLt; have := N_27; omega⟩

/-- The block of activations at any grid point is the whole array of activations. -/
theorem iblk0_apply (c : Dev nD) (t : Fin cfg0.N) (a : Fin 256) (b : Fin 5120) :
    iblk m c 0 t (ix2 a b) = V m c main_v0 (ix2 a b) := by
  have h := (idx_all t).1
  show V m c main_v0 _ = _
  refine congrArg (V m c main_v0) (funext fun d => ?_)
  match d with
  | ⟨0, _⟩ => exact Fin.ext (by show win0_0.index t 0 * 256 + 1 * a.val = a.val; rw [h.1]; omega)
  | ⟨1, _⟩ => exact Fin.ext (by show win0_0.index t 1 * 5120 + 1 * b.val = b.val; rw [h.2]; omega)
/-- Column `n` of the low-bits block at grid point `t` is column `1024·t + n` of the array. -/
theorem iblk1_apply (c : Dev nD) (t : Fin cfg0.N) (i : Fin 20) (a : Fin 128) (n : Fin 1024) :
    iblk m c 1 t (ix3 i a n) = V m c main_arg1 (ix3 i a (col t n)) := by
  have h := (idx_all t).2.1
  show V m c main_arg1 _ = _
  refine congrArg (V m c main_arg1) (funext fun d => ?_)
  match d with
  | ⟨0, _⟩ => exact Fin.ext (by show win0_1.index t 0 * 20 + 1 * i.val = i.val; rw [h.1]; omega)
  | ⟨1, _⟩ => exact Fin.ext (by show win0_1.index t 1 * 128 + 1 * a.val = a.val; rw [h.2.1]; omega)
  | ⟨2, _⟩ => exact Fin.ext (by show win0_1.index t 2 * 1024 + 1 * n.val = 1024 * t.val + n.val; rw [h.2.2]; omega)
/-- Column `n` of the high-bits block at grid point `t` is column `1024·t + n` of the array. -/
theorem iblk2_apply (c : Dev nD) (t : Fin cfg0.N) (i : Fin 20) (a : Fin 64) (n : Fin 1024) :
    iblk m c 2 t (ix3 i a n) = V m c main_arg2 (ix3 i a (col t n)) := by
  have h := (idx_all t).2.2.1
  show V m c main_arg2 _ = _
  refine congrArg (V m c main_arg2) (funext fun d => ?_)
  match d with
  | ⟨0, _⟩ => exact Fin.ext (by show win0_2.index t 0 * 20 + 1 * i.val = i.val; rw [h.1]; omega)
  | ⟨1, _⟩ => exact Fin.ext (by show win0_2.index t 1 * 64 + 1 * a.val = a.val; rw [h.2.1]; omega)
  | ⟨2, _⟩ => exact Fin.ext (by show win0_2.index t 2 * 1024 + 1 * n.val = 1024 * t.val + n.val; rw [h.2.2]; omega)
/-- Column `n` of the scales' block at grid point `t` is column `1024·t + n` of the array. -/
theorem iblk3_apply (c : Dev nD) (t : Fin cfg0.N) (i : Fin 20) (a : Fin 16) (n : Fin 1024) :
    iblk m c 3 t (ix3 i a n) = V m c main_arg3 (ix3 i a (col t n)) := by
  have h := (idx_all t).2.2.2.1
  show V m c main_arg3 _ = _
  refine congrArg (V m c main_arg3) (funext fun d => ?_)
  match d with
  | ⟨0, _⟩ => exact Fin.ext (by show win0_3.index t 0 * 20 + 1 * i.val = i.val; rw [h.1]; omega)
  | ⟨1, _⟩ => exact Fin.ext (by show win0_3.index t 1 * 16 + 1 * a.val = a.val; rw [h.2.1]; omega)
  | ⟨2, _⟩ => exact Fin.ext (by show win0_3.index t 2 * 1024 + 1 * n.val = 1024 * t.val + n.val; rw [h.2.2]; omega)
/-- Column `n` of the block of factors at grid point `t` is column `1024·t + n` of the array. -/
theorem iblk4_apply (c : Dev nD) (t : Fin cfg0.N) (i : Fin 20) (n : Fin 1024) :
    iblk m c 4 t (ix2 i n) = V m c main_arg4 (ix2 i (col t n)) := by
  have h := (idx_all t).2.2.2.2.1
  show V m c main_arg4 _ = _
  refine congrArg (V m c main_arg4) (funext fun d => ?_)
  match d with
  | ⟨0, _⟩ => exact Fin.ext (by show win0_4.index t 0 * 20 + 1 * i.val = i.val; rw [h.1]; omega)
  | ⟨1, _⟩ => exact Fin.ext (by show win0_4.index t 1 * 1024 + 1 * n.val = 1024 * t.val + n.val; rw [h.2]; omega)

/-- Dropping the unit axis of the activations. -/
theorem drop_batch (y : Vec Ideal S1x256x5120 .bf16) (a : Fin 256) (b : Fin 5120) :
    shapeCast S256x5120 y shapeCasts_S1x256x5120_S256x5120 (ix2 a b) = y (ix3 0 a b) := by
  refine shapeCast_apply y _ (ix2 a b) (ix3 0 a b) ?_
  rewrite [Shape.rowMajor_val_three, Shape.rowMajor_val_two]
  show (0 * 256 + a.val) * 5120 + b.val = a.val * 5120 + b.val
  omega

/-- The activations as the kernel finds them: the argument with its unit axis dropped. -/
theorem x_apply (c : Dev nD) (a : Fin 256) (b : Fin 5120) :
    V m c main_v0 (ix2 a b) = m ((c.tc : Thread nD τ).loc main_arg0) (ix3 0 a b) :=
  drop_batch _ a b

/-- What the kernel's result is, by the whole arrays: at row `a` and column `c` the sum over all super-blocks and rows of activation times weight. -/
def kval (x0 : Vec Ideal S1x256x5120 .bf16) (a1 : Vec Ideal S20x128x27648 .i8) (a2 : Vec Ideal S20x64x27648 .i8) (a3 : Vec Ideal S20x16x27648 .i8) (a4 : Vec Ideal S20x27648 .i16) : Vec Ideal S256x27648 .bf16 :=
  fun j => ∑ i : Fin 20, ∑ ρ : Fin 256, x0 (ix3 0 (j 0) ⟨256 * i.val + ρ.val, by omega⟩) * wgt (C := 27648) a1 a2 a3 a4 i ρ (j 1)

/-- That value at row `a`, column `n`. -/
theorem kval_apply (x0 : Vec Ideal S1x256x5120 .bf16) (a1 : Vec Ideal S20x128x27648 .i8) (a2 : Vec Ideal S20x64x27648 .i8) (a3 : Vec Ideal S20x16x27648 .i8) (a4 : Vec Ideal S20x27648 .i16)
    (a : Fin 256) (n : Fin 27648) :
    kval x0 a1 a2 a3 a4 (ix2 a n) = ∑ i : Fin 20, ∑ ρ : Fin 256, x0 (ix3 0 a ⟨256 * i.val + ρ.val, by omega⟩) * wgt (C := 27648) a1 a2 a3 a4 i ρ n := rfl

/-- The result array of device `c` as launched. -/
abbrev kres (c : Dev nD) : Vec Ideal S256x27648 .bf16 :=
  kval (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- What the body leaves at grid point `t`, element by element: the result array at the same row, column `n` of block `t`. -/
theorem block_eq (c : Dev nD) (t : Fin cfg0.N) (a : Fin 256) (n : Fin 1024) :
    out0_5 (iblk m c 0 t) (iblk m c 1 t) (iblk m c 2 t) (iblk m c 3 t) (iblk m c 4 t) (ix2 a n) = kres m c (ix2 a (col t n)) := by
  refine (out_apply _ _ _ _ _ a n).trans ?_
  refine Eq.trans ?_ (kval_apply _ _ _ _ _ a (col t n)).symm
  refine Finset.sum_congr rfl fun i _ => Finset.sum_congr rfl fun ρ _ => ?_
  refine congrArg₂ (fun a b : EReal => a * b) ((iblk0_apply m c t a _).trans (x_apply m c a _)) ?_
  unfold wgt
  rw [iblk1_apply, iblk2_apply, iblk3_apply, iblk4_apply, V_main_arg1, V_main_arg2, V_main_arg3, V_main_arg4]

/-- What grid point `t` writes back is its block of that. -/
theorem flushed_eq (c : Dev nD) (t : Fin cfg0.N) (hf : (cfg0.win 5).flush t = true) :
    (dats m 0 c).flushed 5 t = ((cfg0.win 5).blk t).view.read (Elt Ideal) (kres m c) := by
  rw [Value.flushed5]
  have h := (idx_all t).2.2.2.2.2
  have e : out0_5 (iblk m c 0 t) (iblk m c 1 t) (iblk m c 2 t) (iblk m c 3 t) (iblk m c 4 t) = fun j : S256x1024.Idx => kres m c (ix2 (j 0) (col t (j 1))) := by
    funext j
    have hj : j = ix2 (j 0) (j 1) := by funext a; match a with | ⟨0, _⟩ => rfl | ⟨1, _⟩ => rfl
    exact (congrArg _ hj).trans (block_eq m c t (j 0) (j 1))
  rw [e]
  funext j
  show kres m c _ = kres m c _
  refine congrArg (kres m c) (funext fun d => ?_)
  match d with
  | ⟨0, _⟩ => exact Fin.ext (by show (j 0).val = win0_5.index t 0 * 256 + 1 * (j 0).val; rw [h.1]; omega)
  | ⟨1, _⟩ => exact Fin.ext (by show 1024 * t.val + (j 1).val = win0_5.index t 1 * 1024 + 1 * (j 1).val; rw [h.2]; omega)

/-- Every grid point writes its block of the result back. -/
theorem flush_all : ∀ t : Fin cfg0.N, (cfg0.win 5).flush t = true := (by decide +kernel : ∀ t : Fin grid0.N, (cfg0.win 5).flush t = true)

/-- An index of the result is in point `t`'s block when its column is one of the 1024 from `1024·t` on. -/
theorem mem_blk (t : Fin cfg0.N) (i : S256x27648.Idx) :
    i ∈ ((cfg0.win 5).blk t).view.set ↔ t.val * 1024 ≤ (i 1 : Nat) ∧ (i 1 : Nat) < t.val * 1024 + 1024 := by
  show i ∈ ((View.whole main_v1).slice (win0_5.rect t)).set ↔ _
  rw [View.set_slice_whole, Rect.mem_set_unit]
  have h0 : (i 0 : Nat) < 256 := (i 0).isLt
  have h := (idx_all t).2.2.2.2.2
  refine ⟨fun h' => ?_, fun h' a => ?_⟩
  · have : win0_5.index t 1 * 1024 ≤ (i 1 : Nat) ∧ (i 1 : Nat) < win0_5.index t 1 * 1024 + 1024 := h' 1
    rw [h.2] at this; exact this
  · match a with
    | ⟨0, _⟩ =>
      show win0_5.index t 0 * 256 ≤ (i 0 : Nat) ∧ (i 0 : Nat) < win0_5.index t 0 * 256 + 256
      rw [h.1]; omega
    | ⟨1, _⟩ =>
      show win0_5.index t 1 * 1024 ≤ (i 1 : Nat) ∧ (i 1 : Nat) < win0_5.index t 1 * 1024 + 1024
      rw [h.2]; exact h'

/-- The result array after the run. -/
theorem final (c : Dev nD) : (dats m 0 c).arrAt 5 cfg0.N = kres m c :=
  (dats m 0 c).arrAt_eq_of_cover 5 (kres m c) (flushed_eq m c) fun i => by
    have h0 : (i 0 : Nat) < 256 := (i 0).isLt
    have h1 : (i 1 : Nat) < 27648 := (i 1).isLt
    have hN := N_27
    refine ⟨⟨(i 1 : Nat) / 1024, by omega⟩, flush_all _, ?_⟩
    rw [mem_blk]
    refine ⟨?_, ?_⟩
    · show (i 1 : Nat) / 1024 * 1024 ≤ (i 1 : Nat)
      omega
    · show (i 1 : Nat) < (i 1 : Nat) / 1024 * 1024 + 1024
      omega

end Cert.Q6K

end
-- ==== Proof.Q6K.RVal.lean ====
/-
  What the reference computes, element by element, written once for all four fields.
-/
module

public import proofs.«01_k».proof.Proof.Gen.ReferenceIdeal.Read
public import proofs.«01_k».proof.Proof.Q6K.Code
public import Idealize.ShloMosaic.Lib.Pointwise

@[expose] public section

noncomputable section

namespace Cert.Q6K

open Cert.ReferenceIdeal Cert.ReferenceIdeal.Gen Cert.ReferenceIdeal.Read Idealize.ShloMosaic

/-- The low-bits rows of field `k` lie inside the array. -/
theorem slice_rl : ∀ k : Fin 4, S20x128x27648.Slices ![0, 64 * (k.val % 2), 0] S20x64x27648 := by decide
/-- The scales of field `k` lie inside the array. -/
theorem slice_rs : ∀ k : Fin 4, S20x4x4x27648.Slices ![0, k.val, 0, 0] S20x1x4x27648 := by decide
/-- The activations of field `k` lie inside the array. -/
theorem slice_rx : ∀ k : Fin 4, S1x256x20x4x64.Slices ![0, 0, 0, k.val, 0] S1x256x20x1x64 := by decide

/-- One word for every weight of a field. -/
def splat (v : Nat) : IVec S20x64x27648 32 := broadcastInDim S20x64x27648 ![] bcast_S_S20x64x27648 (constantI S_ 32 (BitVec.ofNat 32 v))

/-- The reference's codes of field `k`. -/
def refCode (k : Fin 4) (x1 : Vec Ideal S20x128x27648 .i8) (x2 : Vec Ideal S20x64x27648 .i8) : IVec S20x64x27648 32 :=
  ori (andi (Host.shrsi (extractStridedSlice S20x64x27648 ![0, 64 * (k.val % 2), 0] (val_main_v9 (F := Ideal) x1) (slice_rl k)) (splat (4 * (k.val / 2)))) (splat 15))
    (Host.shli (andi (Host.shrsi (val_main_v10 (F := Ideal) x2) (splat (2 * k.val))) (splat 3)) (splat 4))

/-- The reference's scales of field `k`, sixteen weights to a scale. -/
def refScale (k : Fin 4) (x3 : Vec Ideal S20x16x27648 .i8) (r0 : FVec Ideal S20x27648 .f32) : FVec Ideal S20x4x16x27648 .bf16 :=
  broadcastInDim S20x4x16x27648 ![0, 1, 2, 3] bcast_S20x4x1x27648_S20x4x16x27648_0_1_2_3
    (broadcastInDim S20x4x1x27648 ![0, 1, 3] bcast_S20x4x27648_S20x4x1x27648_0_1_3
      (shapeCast S20x4x27648 (extractStridedSlice S20x1x4x27648 ![0, k.val, 0, 0] (val_main_v8 (F := Ideal) x3 r0) (slice_rs k)) shapeCasts_S20x1x4x27648_S20x4x27648))

/-- The reference's weights of field `k`. -/
def refW (k : Fin 4) (x1 : Vec Ideal S20x128x27648 .i8) (x2 : Vec Ideal S20x64x27648 .i8) (x3 : Vec Ideal S20x16x27648 .i8) (r0 : FVec Ideal S20x27648 .f32) : FVec Ideal S20x64x27648 .bf16 :=
  shapeCast S20x64x27648 (mulf (shapeCast S20x4x16x27648 (subf (sitofp .bf16 (refCode k x1 x2)) (val_main_v25 (F := Ideal))) shapeCasts_S20x64x27648_S20x4x16x27648) (refScale k x3 r0)) shapeCasts_S20x4x16x27648_S20x64x27648

/-- The reference's activations of field `k`. -/
def refX (k : Fin 4) (x0 : Vec Ideal S1x256x5120 .bf16) : FVec Ideal S1x256x20x64 .bf16 :=
  shapeCast S1x256x20x64 (extractStridedSlice S1x256x20x1x64 ![0, 0, 0, k.val, 0] (val_main_v11 (F := Ideal) x0) (slice_rx k)) shapeCasts_S1x256x20x1x64_S1x256x20x64

/-- The reference's contraction of field `k`. -/
def refDot (k : Fin 4) (x0 : Vec Ideal S1x256x5120 .bf16) (x1 : Vec Ideal S20x128x27648 .i8) (x2 : Vec Ideal S20x64x27648 .i8) (x3 : Vec Ideal S20x16x27648 .i8) (r0 : FVec Ideal S20x27648 .f32) : FVec Ideal S1x256x27648 .f32 :=
  Host.dotGeneral dot_S1x256x20x64_S20x64x27648_S1x256x27648_23_01_01_2_n_n none (refX k x0) (refW k x1 x2 x3 r0)

/-- What the reference accumulates is the sum of the four fields' contractions. -/
theorem v114_eq (x0 : Vec Ideal S1x256x5120 .bf16) (x1 : Vec Ideal S20x128x27648 .i8) (x2 : Vec Ideal S20x64x27648 .i8) (x3 : Vec Ideal S20x16x27648 .i8) (r0 : FVec Ideal S20x27648 .f32) :
    val_main_v114 (F := Ideal) x0 x1 x2 x3 r0 = addf (addf (addf (refDot 0 x0 x1 x2 x3 r0) (refDot 1 x0 x1 x2 x3 r0)) (refDot 2 x0 x1 x2 x3 r0)) (refDot 3 x0 x1 x2 x3 r0) := rfl

/-- An element of a contraction: the sum over super-blocks and rows. -/
theorem dot_apply (X : FVec Ideal S1x256x20x64 .bf16) (W : FVec Ideal S20x64x27648 .bf16) (r : Fin 256) (c : Fin 27648) :
    (Host.dotGeneral dot_S1x256x20x64_S20x64x27648_S1x256x27648_23_01_01_2_n_n none X W : FVec Ideal S1x256x27648 .f32) (ix3 0 r c) = ∑ n : Fin 20, ∑ ρ : Fin 64, X (ix4 0 r n ρ) * W (ix3 n ρ c) := by
  pointwise []

/-- The reference's code of a weight. -/
theorem refCode_apply (k : Fin 4) (x1 : Vec Ideal S20x128x27648 .i8) (x2 : Vec Ideal S20x64x27648 .i8) (n : Fin 20) (ρ : Fin 64) (c : Fin 27648) :
    (refCode k x1 x2 (ix3 n ρ c)).toInt = codeOf k (x1 (ix3 n ⟨64 * (k.val % 2) + ρ.val, by omega⟩ c)) (x2 (ix3 n ρ c)) := by
  have e : extractStridedSlice S20x64x27648 ![0, 64 * (k.val % 2), 0] (val_main_v9 (F := Ideal) x1) (slice_rl k) (ix3 n ρ c) = (x1 (ix3 n ⟨64 * (k.val % 2) + ρ.val, by omega⟩ c)).setWidth 32 :=
    extractStridedSlice_apply _ _ (slice_rl k) _ (ix3 n ⟨64 * (k.val % 2) + ρ.val, by omega⟩ c) (fun a => match a with
      | ⟨0, _⟩ => by show n.val = 0 + n.val; omega
      | ⟨1, _⟩ => rfl
      | ⟨2, _⟩ => by show c.val = 0 + c.val; omega)
  rw [← codeW_toInt, codeW, ← e]
  rfl

/-- The reference's scale of a sub-block: the factor times the integer scale. -/
theorem refScale_apply (k : Fin 4) (x3 : Vec Ideal S20x16x27648 .i8) (r0 : FVec Ideal S20x27648 .f32) (n : Fin 20) (p : Fin 4) (q : Fin 16) (c : Fin 27648) :
    refScale k x3 r0 (ix4 n p q c) = r0 (ix2 n c) * (((x3 (ix3 n ⟨4 * k.val + p.val, by omega⟩ c)).toInt : ℝ) : EReal) := by
  have hk := k.isLt
  have hp := p.isLt
  have hn := n.isLt
  have hc := c.isLt
  unfold refScale
  refine (broadcastInDim_apply _ bcast_S20x4x1x27648_S20x4x16x27648_0_1_2_3 _ _ (ix4 n p 0 c) (fun a => match a with
    | ⟨0, _⟩ => rfl
    | ⟨1, _⟩ => rfl
    | ⟨2, _⟩ => rfl
    | ⟨3, _⟩ => rfl)).trans ?_
  refine (broadcastInDim_apply _ bcast_S20x4x27648_S20x4x1x27648_0_1_3 _ _ (ix3 n p c) (fun a => match a with
    | ⟨0, _⟩ => rfl
    | ⟨1, _⟩ => rfl
    | ⟨2, _⟩ => rfl)).trans ?_
  refine (shapeCast_apply _ shapeCasts_S20x1x4x27648_S20x4x27648 _ (ix4 n 0 p c) ?_).trans ?_
  · rewrite [Shape.rowMajor_val_four, Shape.rowMajor_val_three]
    show ((n.val * 1 + 0) * 4 + p.val) * 27648 + c.val = (n.val * 4 + p.val) * 27648 + c.val
    omega
  refine (extractStridedSlice_apply _ _ (slice_rs k) _ (ix4 n k p c) (fun a => match a with
      | ⟨0, _⟩ => by show n.val = 0 + n.val; omega
      | ⟨1, _⟩ => rfl
      | ⟨2, _⟩ => by show p.val = 0 + p.val; omega
      | ⟨3, _⟩ => by show c.val = 0 + c.val; omega)).trans ?_
  rw [val_main_v8_apply]
  have e : idx_main_v8 (ix4 n k p c) = ix3 n ⟨4 * k.val + p.val, by omega⟩ c := by
    funext a
    match a with
    | ⟨0, _⟩ => exact Fin.ext (by show (((n.val * 4 + k.val) * 4 + p.val) * 27648 + c.val) / 442368 = n.val; omega)
    | ⟨1, _⟩ => exact Fin.ext (by show (((n.val * 4 + k.val) * 4 + p.val) * 27648 + c.val) / 27648 % 16 = 4 * k.val + p.val; omega)
    | ⟨2, _⟩ => exact Fin.ext (by show (((n.val * 4 + k.val) * 4 + p.val) * 27648 + c.val) % 27648 = c.val; omega)
  rw [e]
  simp only [val_main_v7_apply, val_main_v6_apply, val_main_v5_apply, val_main_v2_apply, val_main_v4_apply, val_main_v3_apply]
  have e2 : idx_main_v2 (idx_main_v5 (ix3 n ⟨4 * k.val + p.val, by omega⟩ c)) = ix2 n c := by
    funext a
    match a with
    | ⟨0, _⟩ => rfl
    | ⟨1, _⟩ => rfl
  rw [e2]
  show r0 (ix2 n c) * ((((x3 (ix3 n ⟨4 * k.val + p.val, _⟩ c)).signExtend 32).toInt : ℝ) : EReal) = _
  rw [BitVec.toInt_signExtend_of_le (by decide)]

/-- The reference's weight: code less 32, times the scale. -/
theorem refW_apply (k : Fin 4) (x1 : Vec Ideal S20x128x27648 .i8) (x2 : Vec Ideal S20x64x27648 .i8) (x3 : Vec Ideal S20x16x27648 .i8) (r0 : FVec Ideal S20x27648 .f32) (n : Fin 20) (ρ : Fin 64) (c : Fin 27648) :
    refW k x1 x2 x3 r0 (ix3 n ρ c) = (((codeOf k (x1 (ix3 n ⟨64 * (k.val % 2) + ρ.val, by omega⟩ c)) (x2 (ix3 n ρ c)) : ℝ) - 32 : ℝ) : EReal)
      * (r0 (ix2 n c) * (((x3 (ix3 n ⟨4 * k.val + ρ.val / 16, by omega⟩ c)).toInt : ℝ) : EReal)) := by
  have hρ := ρ.isLt
  unfold refW
  refine (shapeCast_apply _ shapeCasts_S20x4x16x27648_S20x64x27648 _ (ix4 n ⟨ρ.val / 16, by omega⟩ ⟨ρ.val % 16, by omega⟩ c) ?_).trans ?_
  · rewrite [Shape.rowMajor_val_four, Shape.rowMajor_val_three]
    show ((n.val * 4 + ρ.val / 16) * 16 + ρ.val % 16) * 27648 + c.val = (n.val * 64 + ρ.val) * 27648 + c.val
    omega
  refine congrArg₂ (fun a b : EReal => a * b) ?_ (refScale_apply k x3 r0 n _ _ c)
  refine (shapeCast_apply _ shapeCasts_S20x64x27648_S20x4x16x27648 _ (ix3 n ρ c) ?_).trans ?_
  · rewrite [Shape.rowMajor_val_four, Shape.rowMajor_val_three]
    show (n.val * 64 + ρ.val) * 27648 + c.val = ((n.val * 4 + ρ.val / 16) * 16 + ρ.val % 16) * 27648 + c.val
    omega
  have e32 : val_main_v25 (F := Ideal) (ix3 n ρ c) = ((32 : ℝ) : EReal) := by
    show Ideal.ieee 8 7 0x4200#16 = _
    simp [Ideal.ieee, -EReal.coe_mul]; norm_num
  show (((refCode k x1 x2 (ix3 n ρ c)).toInt : ℝ) : EReal) - val_main_v25 (F := Ideal) (ix3 n ρ c) = _
  rw [e32, refCode_apply, ← EReal.coe_sub]
  norm_cast

/-- The activations that field `k` meets. -/
theorem refX_apply (k : Fin 4) (x0 : Vec Ideal S1x256x5120 .bf16) (r : Fin 256) (n : Fin 20) (ρ : Fin 64) :
    refX k x0 (ix4 0 r n ρ) = x0 (ix3 0 r ⟨256 * n.val + 64 * k.val + ρ.val, by omega⟩) := by
  have hk := k.isLt
  unfold refX
  refine (shapeCast_apply _ shapeCasts_S1x256x20x1x64_S1x256x20x64 _ (ix5 0 r n 0 ρ) ?_).trans ?_
  · rewrite [Shape.rowMajor_val_five, Shape.rowMajor_val_four]
    show (((0 * 256 + r.val) * 20 + n.val) * 1 + 0) * 64 + ρ.val = ((0 * 256 + r.val) * 20 + n.val) * 64 + ρ.val
    omega
  refine (extractStridedSlice_apply _ _ (slice_rx k) _ (ix5 0 r n k ρ) (fun a => match a with
      | ⟨0, _⟩ => rfl
      | ⟨1, _⟩ => by show r.val = 0 + r.val; omega
      | ⟨2, _⟩ => by show n.val = 0 + n.val; omega
      | ⟨3, _⟩ => rfl
      | ⟨4, _⟩ => by show ρ.val = 0 + ρ.val; omega)).trans ?_
  unfold val_main_v11
  refine shapeCast_apply _ shapeCasts_S1x256x5120_S1x256x20x4x64 _ _ ?_
  rewrite [Shape.rowMajor_val_five, Shape.rowMajor_val_three]
  show (0 * 256 + r.val) * 5120 + (256 * n.val + 64 * k.val + ρ.val) = (((0 * 256 + r.val) * 20 + n.val) * 4 + k.val) * 64 + ρ.val
  omega

end Cert.Q6K

end
-- ==== Proof.Q6K.Equation.lean ====
module

public import proofs.«01_k».proof.Proof.Q6K.Array
public import proofs.«01_k».proof.Proof.Q6K.RVal

@[expose] public section

/-!
Super-block by super-block and row by row, the kernel's weight is the reference's: four times (code − 32), times the
scale, times a quarter of the super-block factor.  The reference sums field by field; the sums are the same terms in
another order.
-/

noncomputable section

namespace Cert.Q6K

open Idealize.ShloMosaic Cert.KernelIdeal

/-- A sum over 256 rows, field by field. -/
theorem sum_fields (f : Fin 256 → EReal) : ∑ ρ : Fin 256, f ρ = ∑ k : Fin 4, ∑ ρ : Fin 64, f ⟨64 * k.val + ρ.val, by omega⟩ := by
  rw [← Fintype.sum_prod_type', ← Equiv.sum_comp (finProdFinEquiv (m := 4) (n := 64))]
  refine Finset.sum_congr rfl fun p _ => congrArg f (Fin.ext ?_)
  show p.2.val + 64 * p.1.val = 64 * p.1.val + p.2.val
  omega

/-- Four times an integer, times another, times a quarter of a factor: the factor times the other, times the first. -/
theorem quarter (z s : ℤ) (u : ℝ) (hu : (z : ℝ) = 4 * u) (d : EReal) :
    (((z : ℝ)) : EReal) * ((((s : ℝ)) : EReal) * (d * ((1 / 4 : ℝ) : EReal))) = ((u : ℝ) : EReal) * (d * (((s : ℝ)) : EReal)) := by
  have h : ((z : ℝ) : EReal) * ((1 / 4 : ℝ) : EReal) = ((u : ℝ) : EReal) := by
    rw [← EReal.coe_mul, hu]
    congr 1
    ring
  calc _ = (((z : ℝ) : EReal) * ((1 / 4 : ℝ) : EReal)) * (d * ((s : ℝ) : EReal)) := by
        rw [mul_comm d ((1 / 4 : ℝ) : EReal), ← mul_assoc ((s : ℝ) : EReal), mul_comm ((s : ℝ) : EReal), mul_assoc ((1 / 4 : ℝ) : EReal), mul_comm ((s : ℝ) : EReal) d, ← mul_assoc]
    _ = _ := by rw [h]

/-- The kernel's weight as the reference writes it, where the factor is not a negative NaN. -/
theorem wgt_eq {C : Nat} (a1 : (⟨3, ![20, 128, C]⟩ : Shape).Idx → BitVec 8) (a2 : (⟨3, ![20, 64, C]⟩ : Shape).Idx → BitVec 8) (a3 : (⟨3, ![20, 16, C]⟩ : Shape).Idx → BitVec 8)
    (a4 : (⟨2, ![20, C]⟩ : Shape).Idx → BitVec 16) (i : Fin 20) (k : Fin 4) (ρ : Fin 64) (c : Fin C) (hn : BitVec.ule 0xFC01#16 (a4 (ix2 i c)) = false) :
    wgt a1 a2 a3 a4 i ⟨64 * k.val + ρ.val, by omega⟩ c
      = (((codeOf k (a1 (ix3 i ⟨64 * (k.val % 2) + ρ.val, by omega⟩ c)) (a2 (ix3 i ρ c)) : ℝ) - 32 : ℝ) : EReal)
        * (Ideal.ieee 5 10 (a4 (ix2 i c)) * (((a3 (ix3 i ⟨4 * k.val + ρ.val / 16, by omega⟩ c)).toInt : ℝ) : EReal)) := by
  have e1 : (⟨(64 * k.val + ρ.val) / 64, by omega⟩ : Fin 4) = k := Fin.ext (by show (64 * k.val + ρ.val) / 64 = k.val; omega)
  have e2 : (⟨64 * ((64 * k.val + ρ.val) / 64 % 2) + (64 * k.val + ρ.val) % 64, by omega⟩ : Fin 128) = ⟨64 * (k.val % 2) + ρ.val, by omega⟩ :=
    Fin.ext (by show 64 * ((64 * k.val + ρ.val) / 64 % 2) + (64 * k.val + ρ.val) % 64 = 64 * (k.val % 2) + ρ.val; omega)
  have e3 : (⟨(64 * k.val + ρ.val) % 64, by omega⟩ : Fin 64) = ρ := Fin.ext (by show (64 * k.val + ρ.val) % 64 = ρ.val; omega)
  have e4 : (⟨(64 * k.val + ρ.val) / 16, by omega⟩ : Fin 16) = ⟨4 * k.val + ρ.val / 16, by omega⟩ := Fin.ext (by show (64 * k.val + ρ.val) / 16 = 4 * k.val + ρ.val / 16; omega)
  unfold wgt
  rw [e1, e2, e3, e4, halfK_eq _ hn]
  refine quarter _ _ _ ?_ _
  rw [byteOf_toInt]
  push_cast
  ring

/-- The kernel's sum is the reference's sum of four contractions. -/
theorem sums_eq (x0 : Vec Ideal S1x256x5120 .bf16) (a1 : Vec Ideal S20x128x27648 .i8) (a2 : Vec Ideal S20x64x27648 .i8) (a3 : Vec Ideal S20x16x27648 .i8) (a4 : Vec Ideal S20x27648 .i16)
    (r0 : Vec Ideal Cert.ReferenceIdeal.S20x27648 .f32) (hr : ∀ j, r0 j = Ideal.ieee 5 10 (a4 j)) (hn : ∀ j, BitVec.ule 0xFC01#16 (a4 j) = false) (r : Fin 256) (c : Fin 27648) :
    Cert.ReferenceIdeal.Read.val_main_v114 x0 a1 a2 a3 r0 (ix3 0 r c) = kval x0 a1 a2 a3 a4 (ix2 r c) := by
  have hd : ∀ k : Fin 4, refDot k x0 a1 a2 a3 r0 (ix3 0 r c)
      = ∑ i : Fin 20, ∑ ρ : Fin 64, x0 (ix3 0 r ⟨256 * i.val + 64 * k.val + ρ.val, by omega⟩) * wgt (C := 27648) a1 a2 a3 a4 i ⟨64 * k.val + ρ.val, by omega⟩ c := by
    intro k
    refine (dot_apply _ _ r c).trans (Finset.sum_congr rfl fun i _ => Finset.sum_congr rfl fun ρ _ => ?_)
    rw [refX_apply, refW_apply, hr, wgt_eq _ _ _ _ _ _ _ _ (hn _)]
  rw [v114_eq]
  show refDot 0 x0 a1 a2 a3 r0 (ix3 0 r c) + refDot 1 x0 a1 a2 a3 r0 (ix3 0 r c) + refDot 2 x0 a1 a2 a3 r0 (ix3 0 r c) + refDot 3 x0 a1 a2 a3 r0 (ix3 0 r c) = _
  rw [← Fin.sum_univ_four (fun k : Fin 4 => refDot k x0 a1 a2 a3 r0 (ix3 0 r c)), Finset.sum_congr rfl fun k _ => hd k, Finset.sum_comm]
  refine Finset.sum_congr rfl fun i _ => ?_
  rw [sum_fields]
  refine Finset.sum_congr rfl fun k _ => Finset.sum_congr rfl fun ρ _ => ?_
  refine congrArg (fun q : Fin 5120 => x0 (ix3 0 r q) * wgt (C := 27648) a1 a2 a3 a4 i ⟨64 * k.val + ρ.val, by omega⟩ c) (Fin.ext ?_)
  show 256 * i.val + 64 * k.val + ρ.val = 256 * i.val + (64 * k.val + ρ.val)
  omega

end Cert.Q6K

end
-- ==== Proof.Q6K.Factor.lean ====
module

public import proofs.«01_k».proof.Proof.Gen.ReferenceIdeal.Read
public import Idealize.ShloMosaic.Lib.Pointwise
public import Idealize.ShloMosaic.Lib.Pipeline.Value

@[expose] public section

/-!
The reference reads the super-block factors' bits as half-precision floats and widens them in one call without a grid;
the array that call returns holds the value of each pattern.
-/

noncomputable section

namespace Cert.Q6K

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Idealize.ShloMosaic.Ideal) ℓ)

/-- What the one call leaves of its operand: the operand, widening changing no value. -/
theorem widen_apply (x : Vec Idealize.ShloMosaic.Ideal S20x27648 .f16) (j : S20x27648.Idx) : out0_1 x j = x j := by
  have hz : (![0, 0] : Fin 2 → Nat) = fun _ => 0 := funext fun a => by fin_cases a <;> rfl
  refine (congrFun (View.canon_unit_zero (S := S20x27648) hz _ _) _).trans ?_
  unfold k0_pay1
  rw [show View.ld x r0_0 = x from View.ld_unit_zero (S := S20x27648) hz _ _]
  show shapeCast S20x27648 x shapeCasts_S20x27648_S20x27648 j = x j
  exact shapeCast_apply _ _ _ _ rfl

/-- The one grid point. -/
def t₀ : Fin cfg0.N := ⟨0, by decide⟩

/-- The array the call returns, read through its one block: what the body left at the one point, cut. -/
theorem final_out (c : Dev nD) :
    ((cfg0.win 1).blk t₀).view.read (Elt Idealize.ShloMosaic.Ideal) ((dats m 0 c).arrAt 1 cfg0.N) = (dats m 0 c).flushed 1 t₀ := by
  rw [show cfg0.N = (t₀ : Fin cfg0.N).val + 1 from rfl, (dats m 0 c).arrAt_succ 1 t₀]
  rw [show (cfg0.win 1).flush t₀ = true from by decide, if_pos rfl]
  exact View.read_write_univ _ _

/-- The array the call returns holds what the body made of its operand. -/
theorem final_value (c : Dev nD) : (dats m 0 c).arrAt 1 cfg0.N = out0_1 (V m c main_v0) := by
  have ho := final_out m c
  have hz1 : (fun a => (win0_1.index t₀) a * main_v1.ty.shape.size a) = fun _ => 0 := funext fun a => by fin_cases a <;> decide
  have hr1 := fun f => Memref.read_access_unit_zero (Elt Idealize.ShloMosaic.Ideal) main_v1 hz1 (fun a => by fin_cases a <;> decide) f
  have hz0 : (fun a => (win0_0.index t₀) a * main_v0.ty.shape.size a) = fun _ => 0 := funext fun a => by fin_cases a <;> decide
  have hr0 := fun f => Memref.read_access_unit_zero (Elt Idealize.ShloMosaic.Ideal) main_v0 hz0 (fun a => by fin_cases a <;> decide) f
  rw [hr1] at ho
  rw [ho]
  show (cfg0.win 1).cut _ ((dats m 0 c).after 1 t₀) = _
  rw [after0_1]
  unfold iblk
  rw [hr0]
  rfl

/-- The widened factors: at every index the value of the half-precision pattern given. -/
theorem factor (c : Dev nD) (j : S20x27648.Idx) :
    Value.reg_main_v1 m c j = Idealize.ShloMosaic.Ideal.ieee 5 10 (m ((c.tc : Thread nD τ).loc main_arg4) j) := by
  unfold Value.reg_main_v1
  rw [final_value]
  exact (widen_apply _ j).trans rfl

end Cert.Q6K

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.ReferenceIdeal.Read
public import proofs.«01_k».proof.Proof.Q6K.Equation
public import proofs.«01_k».proof.Proof.Q6K.Factor
public import Idealize.ShloMosaic.Adequacy
public import Idealize.ShloMosaic.Init

@[expose] public section

/-!
The programs run to completion with their arguments kept; the kernel's idealization is the kernel itself, no operation rewritten; and the kernel's result
is the reference's, element by element, wherever no super-block factor is a negative NaN.
-/

noncomputable section

namespace Cert.Proof

open Idealize.ShloMosaic Idealize.SL.Sem

/-- The one side condition of the precondition: a scalar broadcasts to the factors' shape. -/
theorem preFacts : Cert.Pre_no_negative_nan.Facts := ⟨by decide⟩

/-- A pattern that is non-negative as a signed word, or at most −1024, is not a negative NaN. -/
theorem not_negative_nan (h : BitVec 16) (hs : IntOp.ori (IntOp.cmpi .sge h 0#16) (IntOp.cmpi .sle h 64512#16) = 1#1) :
    BitVec.ule 0xFC01#16 h = false := by
  by_contra hc
  have hu : 0xFC01 ≤ h.toNat := by simpa [BitVec.ule] using hc
  have hl : h.toNat < 65536 := h.isLt
  have hi : h.toInt = (h.toNat : Int) - 65536 := by
    rw [BitVec.toInt_eq_toNat_cond, if_neg (by omega)]
    rfl
  have s1 : BitVec.sle 0#16 h = false := by
    rw [BitVec.sle, hi]
    exact decide_eq_false (by show ¬ (0 : Int) ≤ _; omega)
  have s2 : BitVec.sle h 64512#16 = false := by
    rw [BitVec.sle, hi]
    exact decide_eq_false (by show ¬ _ ≤ (-1024 : Int); omega)
  have hs' : BitVec.ofBool (BitVec.sle 0#16 h) ||| BitVec.ofBool (BitVec.sle h 64512#16) = 1#1 := hs
  rw [s1, s2] at hs'
  exact absurd hs' (by decide)

/-- The precondition at an element of the factors. -/
theorem pre_apply (x0 : FVec Ideal Cert.KernelIdeal.S1x256x5120 .bf16) (x1 : IVec Cert.KernelIdeal.S20x128x27648 8) (x2 : IVec Cert.KernelIdeal.S20x64x27648 8) (x3 : IVec Cert.KernelIdeal.S20x16x27648 8) (x4 : IVec Cert.KernelIdeal.S20x27648 16)
    (h : @Cert.Pre_no_negative_nan.fn preFacts Ideal _ x0 x1 x2 x3 x4 = fun _ => 1#1) (j : Cert.KernelIdeal.S20x27648.Idx) :
    BitVec.ule 0xFC01#16 (x4 j) = false :=
  not_negative_nan _ (congrFun h j)

/-- The two results are the same array. -/
theorem result_eq (x0 : Vec Ideal Cert.KernelIdeal.S1x256x5120 .bf16) (x1 : Vec Ideal Cert.KernelIdeal.S20x128x27648 .i8) (x2 : Vec Ideal Cert.KernelIdeal.S20x64x27648 .i8) (x3 : Vec Ideal Cert.KernelIdeal.S20x16x27648 .i8) (x4 : Vec Ideal Cert.KernelIdeal.S20x27648 .i16)
    (r0 : Vec Ideal Cert.ReferenceIdeal.S20x27648 .f32) (hr : ∀ j, r0 j = Ideal.ieee 5 10 (x4 j)) (hn : ∀ j, BitVec.ule 0xFC01#16 (x4 j) = false) :
    Cert.ReferenceIdeal.Read.val_main_v116 x0 x1 x2 x3 r0 = Cert.Q6K.kval x0 x1 x2 x3 x4 := by
  funext j
  have hj : j = ix2 (j 0) (j 1) := by funext a; match a with | ⟨0, _⟩ => rfl | ⟨1, _⟩ => rfl
  have h0 : (j 0).val < 256 := (j 0).isLt
  have h1 : (j 1).val < 27648 := (j 1).isLt
  rw [Cert.ReferenceIdeal.Read.val_main_v116_apply]
  refine Eq.trans ?_ ((Cert.Q6K.sums_eq x0 x1 x2 x3 x4 r0 hr hn (j 0) (j 1)).trans (congrArg (Cert.Q6K.kval x0 x1 x2 x3 x4) hj.symm))
  refine congrArg (Cert.ReferenceIdeal.Read.val_main_v114 x0 x1 x2 x3 r0) (funext fun a => ?_)
  match a with
  | ⟨0, _⟩ => rfl
  | ⟨1, _⟩ => exact Fin.ext (by show ((j 0).val * 27648 + (j 1).val) / 27648 % 256 = (j 0).val; omega)
  | ⟨2, _⟩ => exact Fin.ext (by show ((j 0).val * 27648 + (j 1).val) % 27648 = (j 1).val; omega)

/-- Everything the certificate claims. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, fun m g m' g' hpre hargs => by
    refine ⟨fun c => Cert.Q6K.kres m c, ?_, ?_⟩
    · refine (θ_run _ _ _).mono (fun r h c => ?_) (Cert.KernelIdeal.Value.run_blocks m g)
      exact ⟨(h c).1.trans (Cert.Q6K.final m c), (h c).2⟩
    · refine (θ_run _ _ _).mono (fun r h c => ?_) (Cert.ReferenceIdeal.Value.run m' g')
      obtain ⟨a0, a1, a2, a3, a4⟩ := hargs c
      refine ⟨(h c).1.trans ?_, (h c).2⟩
      refine (Cert.ReferenceIdeal.Read.val_main_v116_eq _).trans ?_
      rw [Cert.ReferenceIdeal.Value.exit_main_arg0, Cert.ReferenceIdeal.Value.exit_main_arg1, Cert.ReferenceIdeal.Value.exit_main_arg2,
        Cert.ReferenceIdeal.Value.exit_main_arg3, Cert.ReferenceIdeal.Value.exit_main_v1, a0, a1, a2, a3]
      refine result_eq _ _ _ _ _ _ (fun j => ?_) (pre_apply _ _ _ _ _ (hpre c))
      rw [Cert.Q6K.factor, a4]⟩

end Cert.Proof

end
